-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S_ : Shape := ⟨0, ![]⟩
abbrev S100000x128 : Shape := ⟨2, ![100000, 128]⟩
abbrev S128x100000 : Shape := ⟨2, ![128, 100000]⟩

class Facts : Prop where

variable [Facts]

def fn {F : FTy → Type} [FloatOps F] (main_arg0 : IVec S_ 32) (main_arg1 : FVec F S100000x128 .f32) (main_arg2 : FVec F S128x100000 .f32) : IVec S_ 1 :=
  let main_c : IVec S_ 32 := constantI S_ 32 0#32
  let main_v0 : IVec S_ 1 := cmpi .sge main_arg0 main_c
  let main_c_0 : IVec S_ 32 := constantI S_ 32 100000#32
  let main_v1 : IVec S_ 1 := cmpi .slt main_arg0 main_c_0
  let main_v2 : IVec S_ 1 := andi main_v0 main_v1
  main_v2
-- ==== Pre_in_range_finite.lean ====
abbrev S_ : Shape := ⟨0, ![]⟩
abbrev S100000x128 : Shape := ⟨2, ![100000, 128]⟩
abbrev S128x100000 : Shape := ⟨2, ![128, 100000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_

variable [Facts]

def fn {F : FTy → Type} [FloatOps F] (main_arg0 : IVec S_ 32) (main_arg1 : FVec F S100000x128 .f32) (main_arg2 : FVec F S128x100000 .f32) : IVec S_ 1 :=
  let main_c : IVec S_ 32 := constantI S_ 32 0#32
  let main_v0 : IVec S_ 1 := cmpi .sge main_arg0 main_c
  let main_c_0 : IVec S_ 32 := constantI S_ 32 100000#32
  let main_v1 : IVec S_ 1 := cmpi .slt main_arg0 main_c_0
  let main_v2 : IVec S_ 1 := andi main_v0 main_v1
  let main_v3 : FVec F S100000x128 .f32 := Host.absf main_arg1
  let main_cst : FVec F S_ .f32 := constant S_ .f32 0x7F800000#32
  let main_v4 : FVec F S100000x128 .f32 := broadcastInDim S100000x128 ![] bcast_S_S100000x128 main_cst
  let main_v5 : IVec S100000x128 1 := cmpf .olt main_v3 main_v4
  let main_c_1 : IVec S_ 1 := constantI S_ 1 1#1
  let main_v6 : IVec S_ 1 := (fun x v => Host.reduce IntOp.andi x v reducesTo_S100000x128_S_d0_1 h_S_) main_v5 main_c_1
  let main_v7 : IVec S_ 1 := andi main_v2 main_v6
  let main_v8 : FVec F S128x100000 .f32 := Host.absf main_arg2
  let main_cst_2 : FVec F S_ .f32 := constant S_ .f32 0x7F800000#32
  let main_v9 : FVec F S128x100000 .f32 := broadcastInDim S128x100000 ![] bcast_S_S128x100000 main_cst_2
  let main_v10 : IVec S128x100000 1 := cmpf .olt main_v8 main_v9
  let main_c_3 : IVec S_ 1 := constantI S_ 1 1#1
  let main_v11 : IVec S_ 1 := (fun x v => Host.reduce IntOp.andi x v reducesTo_S128x100000_S_d0_1 h_S_) main_v10 main_c_3
  let main_v12 : IVec S_ 1 := andi main_v7 main_v11
  main_v12
-- ==== Kernel.lean ====
abbrev S_ : Shape := ⟨0, ![]⟩
abbrev S100000x128 : Shape := ⟨2, ![100000, 128]⟩
abbrev S128x100000 : Shape := ⟨2, ![128, 100000]⟩
abbrev S16 : Shape := ⟨1, ![16]⟩
abbrev S1x128 : Shape := ⟨2, ![1, 128]⟩
abbrev S1 : Shape := ⟨1, ![1]⟩
abbrev S100000 : Shape := ⟨1, ![100000]⟩
abbrev S20480x128 : Shape := ⟨2, ![20480, 128]⟩
abbrev S5x20480 : Shape := ⟨2, ![5, 20480]⟩
abbrev S2 : Shape := ⟨1, ![2]⟩
abbrev S1x20480 : Shape := ⟨2, ![1, 20480]⟩
abbrev S1x1x20480 : Shape := ⟨3, ![1, 1, 20480]⟩
abbrev S1x1x1 : Shape := ⟨3, ![1, 1, 1]⟩
abbrev S1x102400 : Shape := ⟨2, ![1, 102400]⟩
abbrev S1x100000 : Shape := ⟨2, ![1, 100000]⟩

abbrev nBuf : Table → Nat
  | .hbm => 7
  | .local .tc .vmem => 5
  | .local .tc .smem => 1
  | .local .scScalar .smem => 1
  | _ => 0

abbrev bufTy : (tb : Table) → Fin (nBuf tb) → BufTy
  | .hbm, ⟨0, _⟩ => ⟨S_, .i32⟩
  | .hbm, ⟨1, _⟩ => ⟨S100000x128, .f32⟩
  | .hbm, ⟨2, _⟩ => ⟨S128x100000, .f32⟩
  | .hbm, ⟨3, _⟩ => ⟨S16, .i32⟩
  | .hbm, ⟨4, _⟩ => ⟨S100000x128, .f32⟩
  | .hbm, ⟨5, _⟩ => ⟨S1x128, .f32⟩
  | .hbm, ⟨6, _⟩ => ⟨S100000, .f32⟩
  | .local .tc .vmem, ⟨0, _⟩ => ⟨S1x128, .f32⟩
  | .local .tc .vmem, ⟨1, _⟩ => ⟨S20480x128, .f32⟩
  | .local .tc .vmem, ⟨2, _⟩ => ⟨S20480x128, .f32⟩
  | .local .tc .vmem, ⟨3, _⟩ => ⟨S100000, .f32⟩
  | .local .tc .vmem, ⟨4, _⟩ => ⟨S5x20480, .f32⟩
  | .local .tc .smem, ⟨0, _⟩ => ⟨S2, .f32⟩
  | .local .scScalar .smem, ⟨0, _⟩ => ⟨S16, .i32⟩
  | _, _ => ⟨S_, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => true
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scs : Ref sig .scScalar := ⟨.hbm, 3, rfl⟩
abbrev main_v1_scs : Ref sig .scScalar := ⟨.hbm, 4, rfl⟩
abbrev main_v2_scs : Ref sig .scScalar := ⟨.hbm, 5, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_scratch0 : Ref sig .tc := ⟨.vmem, 4, rfl⟩
abbrev cc1_scratch1 : Ref sig .tc := ⟨.smem, 0, rfl⟩
abbrev cc0_scratch0 : Ref sig .scScalar := ⟨.smem, 0, rfl⟩
abbrev cc1_sem0_0 : DmaSem sig := 2
abbrev cc1_sem1_0 : DmaSem sig := 3
abbrev cc1_sem1_1 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 2 → Nat :=
  let c0_i32_2 : BitVec 32 := 0#32
  ![v4.toNat, 0]

def k0_chk1 (i : grid0.Coords) (v4 : BitVec 32) : Prop :=
  (∀ (k0_h1 : k0_cond1 i = 1#1), ∀ a, (k0_off1 v4) a + S1x128.size a ≤ S100000x128.size a)
theorem k0_off1_inb : ∀ (i : grid0.Coords) (v4 : BitVec 32) (k0_hw1 : k0_chk1 i v4), ∀ (k0_h1 : k0_cond1 i = 1#1), ∀ a, (k0_off1 v4) a + S1x128.size a ≤ S100000x128.size a := fun i v4 k0_hw1 k0_h1 => k0_hw1 k0_h1

abbrev grid1 : Pipeline.Grid := ⟨1, ![6], ![false]⟩

def k1_cond1 (i : grid1.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let v18 : Index := Scalar.indexCast arg0
  let c0_6 : Index := 0#32
  ![v18.toNat, 0]
def k1_cond2 (i : grid1.Coords) : BitVec 1 :=
  let arg0 : BitVec 32 := BitVec.ofNat 32 (i 0).val
  let c5_i32_0 : BitVec 32 := 5#32
  let v3 : BitVec 1 := Scalar.cmpi .eq arg0 c5_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S20480x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S_ : Shape := ⟨0, ![]⟩
abbrev S100000x128 : Shape := ⟨2, ![100000, 128]⟩
abbrev S128x100000 : Shape := ⟨2, ![128, 100000]⟩
abbrev S128x1 : Shape := ⟨2, ![128, 1]⟩
abbrev S128 : Shape := ⟨1, ![128]⟩
abbrev S100000 : Shape := ⟨1, ![100000]⟩
abbrev S1 : Shape := ⟨1, ![1]⟩

abbrev nBuf : Space → Nat
  | .hbm => 33
  | .vmem => 0
  | .smem => 0
  | _ => 0

abbrev bufTy : (tb : Table) → Fin (tcTables nBuf tb) → BufTy
  | .hbm, ⟨0, _⟩ => ⟨S_, .i32⟩
  | .hbm, ⟨1, _⟩ => ⟨S100000x128, .f32⟩
  | .hbm, ⟨2, _⟩ => ⟨S128x100000, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x1, .f32⟩
  | .hbm, ⟨17, _⟩ => ⟨S128, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S100000, .f32⟩
  | .hbm, ⟨32, _⟩ => ⟨S100000, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_c_3 : Ref sig .tc := ⟨.hbm, 9, rfl⟩
abbrev main_v2 : Ref sig .tc := ⟨.hbm, 10, rfl⟩
abbrev main_c_4 : Ref sig .tc := ⟨.hbm, 11, rfl⟩
abbrev main_v3 : Ref sig .tc := ⟨.hbm, 12, rfl⟩
abbrev main_c_5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_v9 : Ref sig .tc := ⟨.hbm, 32, rfl⟩

abbrev nD : Nat := 1
abbrev τ : Topo := Topo.v7x

variable {F : FTy → Type} [FloatOps F]
-- ==== Proof.Launch.lean ====
/-
  The launch of the version's program as Lib/SparseCore sees it: one scalar-subcore call over two SparseCores followed by
  one TensorCore pipeline. This file names the configuration, the resource algebra (the handshakes' rounds, the
  pipeline's rounds, the transfers' counters) and the values that the call reads and leaves.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2)

variable {F : FTy → Type} [FloatOps F]

/-! ## The program as the launch theorem sees it -/

/-- The labels of the body table under the SparseCore launch: the pipeline's. -/
abbrev ΛP : Labels := Pipeline.Sig Λ₀ (Fin 1) fun p => (pcfgs (F := F) p).Adm
/-- The SparseCore configuration of @main. -/
abbrev K : SparseCore.Cfg τ sig (ΛP (F := F)) 1 := sc (F := F)
/-- The body table under the SparseCore launch. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The decided facts about the launch semaphores. -/
theorem launchFacts : (K (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by
    show ∀ (b : DevRef τ sig) (c : Fin τ.nSC), b.owner = .sc c → sig.taskShared b.table b.idx = false
    decide
  noSeq := fun _ => rfl

/-! ## The resource algebra -/

abbrev UH : Type := URounds (GSem nD τ sig) ℕ
abbrev UP : Type := URounds (GSem nD τ sig) Unit
abbrev UU : Type := UH × UP × Counters

/-- The handshakes' rounds: the left factor. -/
abbrev EH : Emb UH (MT nD τ sig (HIx 1) (Elt F) ℕ UU ℕ) := embL
/-- The pipeline's rounds: the middle factor. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP; infer_instance

/-! ## The values -/

variable (m : (ℓ : Loc nD τ sig) → Buf (Elt F) ℓ)

/-- The launch contents of the three arguments on device `d`, as arrays. -/
def arg0 (d : Dev nD) : Vec F S_ .i32 := m ((SparseCore.T d).loc main_arg0)
def arg1 (d : Dev nD) : Vec F S100000x128 .f32 := m ((SparseCore.T d).loc main_arg1)
def arg2 (d : Dev nD) : Vec F S128x100000 .f32 := m ((SparseCore.T d).loc main_arg2)

/-- The node word: the first argument's one element. -/
def nodeW (d : Dev nD) : BitVec 32 := arg0 m d ix0

/-- What @main's first operation leaves for the SparseCore: the node word sixteen times. -/
def nodes (d : Dev nD) : Vec F S16 .i32 := broadcastInDim S16 ![] bcast_S_S16 (arg0 m d)

/-- What @main's second operation leaves for it: the context matrix transposed. -/
def ctxT (d : Dev nD) : Vec F S100000x128 .f32 := transpose S100000x128 [1, 0] (arg2 m d) transposes_S128x100000_S100000x128_1_0

/-- The node word names a row of the transposed context matrix. -/
def InRange (d : Dev nD) : Prop := (nodeW m d).toNat < 100000

/-- The gathered row: the transposed context matrix at the node's row. -/
def z1 (d : Dev nD) : Vec F S1x128 .f32 :=
  fun x => ctxT m d (ix2 ⟨(nodeW m d).toNat % 100000, Nat.mod_lt _ (by decide)⟩ (x 1))

end Cert.Proof.Run

end
-- ==== Proof.Gather.lean ====
/-
  The SparseCore call. SparseCore 0's sequencer copies the node words into its scalar memory, reads the first of them
  and copies that row of the transposed context matrix into the call's result; SparseCore 1's does nothing. The call is
  handed the two operands and the result whole, and gives them back with the result holding the row.
-/
module

public import proofs.«01_k».proof.Proof.Launch

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2)
open Idealize.ShloMosaic.Tactic

variable {F : FTy → Type} [FloatOps F]

local notation "𝕄" => MT nD τ sig (HIx 1) (Elt F) ℕ UU ℕ

variable (m : (ℓ : Loc nD τ sig) → Buf (Elt F) ℓ)

-- the call's memrefs, spelt as the body table passes them
local notation "nW" => (Memref.whole Cert.KernelIdeal.main_v0_scs : Memref Cert.KernelIdeal.sig Kind.scScalar Space.hbm Cert.KernelIdeal.S16 EltTy.i32)
local notation "tW" => (Memref.whole Cert.KernelIdeal.main_v1_scs : Memref Cert.KernelIdeal.sig Kind.scScalar Space.hbm Cert.KernelIdeal.S100000x128 EltTy.f32)
local notation "rW" => (Memref.whole Cert.KernelIdeal.main_v2_scs : Memref Cert.KernelIdeal.sig Kind.scScalar Space.hbm Cert.KernelIdeal.S1x128 EltTy.f32)
local notation "bW" => (Memref.whole Cert.KernelIdeal.cc0_scratch0 : Memref Cert.KernelIdeal.sig Kind.scScalar Space.smem Cert.KernelIdeal.S16 EltTy.i32)

abbrev nLoc (d : Dev nD) : Loc nD τ sig := (SparseCore.T d).loc main_v0
abbrev tLoc (d : Dev nD) : Loc nD τ sig := (SparseCore.T d).loc main_v1
abbrev rLoc (d : Dev nD) : Loc nD τ sig := (SparseCore.T d).loc main_v2

/-- The operands at their values and the result at `f`, whole. -/
abbrev operands (d : Dev nD) (f : Buf (Elt F) (rLoc d)) : sProp 𝕄 :=
  iprop((nLoc d ↦{fullShare} nodes m d) ∗ (tLoc d ↦{fullShare} ctxT m d) ∗ (rLoc d ↦{fullShare} f))

/-- What the call hands SparseCore number `c`: for SparseCore 0 the operands and the result at any contents. -/
def before (d : Dev nD) (c : ℕ) : sProp 𝕄 := if c = 0 then iprop(∃ f, operands m d f) else iprop(emp)
/-- What it takes back: from SparseCore 0 the operands and the result at the gathered row. -/
def after (d : Dev nD) (c : ℕ) : sProp 𝕄 := if c = 0 then operands m d (z1 m d) else iprop(emp)

theorem before_zero (d : Dev nD) : before m d 0 = iprop(∃ f, operands m d f) := if_pos rfl
theorem before_one (d : Dev nD) : before m d 1 = iprop(emp) := if_neg Nat.one_ne_zero
theorem after_zero (d : Dev nD) : after m d 0 = operands m d (z1 m d) := if_pos rfl
theorem after_one (d : Dev nD) : after m d 1 = iprop(emp) := if_neg Nat.one_ne_zero

instance before_storable (d : Dev nD) (c : ℕ) : BI.Storable (upEmb : UEmb _ 𝕄) (before m d c) := by
  unfold before; split <;> infer_instance
instance after_storable (d : Dev nD) (c : ℕ) : BI.Storable (upEmb : UEmb _ 𝕄) (after m d c) := by
  unfold after; split <;> infer_instance

/-- The call's payloads. -/
def P : (K (F := F)).Pay (nD := nD) (Val := Elt F) (Name := ℕ) (U := UU) where
  st := fun _ d c => before m d c.val
  dn := fun _ d c => after m d c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- Every node word is the node. -/
theorem nodes_apply (d : Dev nD) (i : S16.Idx) : nodes m d i = nodeW m d := by
  unfold nodes nodeW
  exact congrArg (arg0 m d) (ValueIdx.eq_ix0 _)

/-- The row the second copy reads is the gathered row. -/
theorem row_read (d : Dev nD) (hR : InRange m d) (v : BitVec 32) (hv : v = nodeW m d)
    (inb : ∀ a, k0_off1 v a + S1x128.size a ≤ S100000x128.size a) :
    ReadAs.same.apply (((tW).slice (Rect.unit (k0_off1 v) S1x128.size inb) (fun _ => rfl)).view.read (Elt F) (ctxT m d)) = z1 m d := by
  subst hv
  funext x
  show ctxT m d _ = ctxT m d _
  congr 1
  funext a
  have h0 : (x 0).val = 0 := by have : (x 0).val < 1 := (x 0).isLt; omega
  fin_cases a
  · apply Fin.ext
    show (nodeW m d).toNat + 1 * (x 0).val = (nodeW m d).toNat % 100000
    rw [h0, Nat.mod_eq_of_lt hR]; omega
  · apply Fin.ext
    show 0 + 1 * (x 1).val = (x 1).val
    omega

/-! ## What a sequencer owns: its two semaphores and its scalar memory -/

section Body

variable (d : Dev nD)

/-- The grid point of SparseCore number `c`. -/
def coordsS (c : Fin (grid0.bound 0)) : grid0.Coords := fun | 0 => c | ⟨_ + 1, h⟩ => absurd h (Nat.not_lt.2 (Nat.le_add_left _ _))

abbrev cellA (c : Fin τ.nSC) : GSem nD τ sig := (S d c, .dma cc0_scoped0.sem)
abbrev cellB (c : Fin τ.nSC) : GSem nD τ sig := (S d c, .dma cc0_scratch1.sem)

/-- The sequencer's scoped semaphores: the two that the kernel names, and the rest. -/
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨fun h => absurd (congrArg Prod.snd h) (by
      show ¬ (SemLoc.dma cc0_scratch1.sem : SemLoc sig) = SemLoc.dma cc0_scoped0.sem; decide),
      (mem_ownCells (g := cellB d c)).mpr ⟨rfl, by
        show (SemLoc.dma cc0_scratch1.sem : SemLoc sig).isScoped .scScalar = true; decide⟩⟩)]

/-- The sequencer's buffers: the kernel's scalar memory, and the rest. -/
theorem ownBufs_S (c : Fin τ.nSC) :
    (ownBufs (S d c) : sProp 𝕄) = iprop((∃ f, (bW).view.loc (S d c) ↦{fullShare} f)
      ∗ bigSep ((ownRefs (τ := τ) (sig := sig) (.scScalar c)).erase ((Proc.scScalar c).devRef cc0_scratch0)) fun b => iprop(∃ f, ((d, b) : Loc nD τ sig) ↦{fullShare} f)) := by
  unfold SparseCore.Cfg.ownBufs
  exact SparseCore.bigSep_erase' (M := 𝕄) (s := ownRefs (τ := τ) (sig := sig) (.scScalar c)) (i := (Proc.scScalar c).devRef cc0_scratch0)
    (Φ := fun b => iprop(∃ f, ((d, b) : Loc nD τ sig) ↦{fullShare} f)) (mem_ownRefs_of_owner (p := .scScalar c) rfl)

/-- The arrays as a sequencer's memrefs address them are the TensorCore's arrays. -/
theorem pts_n (c : Fin τ.nSC) (f : Buf (Elt F) (nLoc d)) : ((nW).view.loc (S d c) ↦{fullShare} f : sProp 𝕄) = nLoc d ↦{fullShare} f := by
  simp only [Memref.view_whole, View.set_whole]
theorem pts_t (c : Fin τ.nSC) (f : Buf (Elt F) (tLoc d)) : ((tW).view.loc (S d c) ↦{fullShare} f : sProp 𝕄) = tLoc d ↦{fullShare} f := by
  simp only [Memref.view_whole, View.set_whole]
theorem pts_r (c : Fin τ.nSC) (f : Buf (Elt F) (rLoc d)) : ((rW).view.loc (S d c) ↦{fullShare} f : sProp 𝕄) = rLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The kernel on SparseCore 0's sequencer. -/
theorem body₀ (hR : InRange m d) (h : 0 < grid0.bound 0) (O : CellTallies nD τ sig (HIx 1)) (W : Waits sig (HIx 1)) (hO : ∀ g, O g none = 0) :
    iprop(levAts (K (F := F)).L (K (F := F)).lev ∗ emp ∗ before m d 0
        ∗ scopedBufs (S0 d h) ∗ scopedSems0 (S0 d h) ∗ owes (S0 d h) O W)
      ⊢ wp frame (wpE (defs₀ (F := F)) 𝒱₀ (S0 d h) none) Set.univ
          (cc0__sc_gather_body (coordsS ⟨0, h⟩) nW (Memref.isWhole_whole _) tW (Memref.isWhole_whole _) rW (Memref.isWhole_whole _) bW (Memref.isWhole_whole _) cc0_scratch1 cc0_scoped0)
          fun _ => iprop(after m d 0 ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__sc_gather_body_eq_skeleton]; unfold cc0__sc_gather_body_skel
  rw [before_zero, after_zero]
  iintro ⟨#Hlv, -, ⟨%fr, Hn, Ht, Hr⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsA, HsB, Hrest⟩
  ihave Hsb' := (Entails.of_eq ((K (F := F)).scopedBufs_S launchFacts d (((⟨0, h⟩ : Fin (grid0.bound 0))).castLE hcore0))) $$ Hsb
  icases Hsb' with ⟨Hob, Hvb⟩
  ihave Hob' := (Entails.of_eq (ownBufs_S (F := F) d (((⟨0, h⟩ : Fin (grid0.bound 0))).castLE hcore0))) $$ Hob
  icases Hob' with ⟨⟨%fb, Hb⟩, Hbrest⟩
  ihave Hmw := ((K (F := F)).mayWaits_none (thr := S0 d h) hO) $$ Hlv
  ihave Hn' := (Entails.of_eq (pts_n (F := F) d (((⟨0, h⟩ : Fin (grid0.bound 0))).castLE hcore0) _).symm) $$ Hn
  ihave Ht' := (Entails.of_eq (pts_t (F := F) d (((⟨0, h⟩ : Fin (grid0.bound 0))).castLE hcore0) _).symm) $$ Ht
  ihave Hr' := (Entails.of_eq (pts_r (F := F) d (((⟨0, h⟩ : Fin (grid0.bound 0))).castLE hcore0) _).symm) $$ Hr
  sl_exec
  have e : body₀.sl.r m d h fb = nodeW m d := by
    unfold body₀.sl.r body₀.sl.dma0
    rw [View.readAt_apply]
    refine (congrArg (fun g => View.read (Elt F) (Memref.whole cc0_scratch0).view g _) (View.write_whole_univ cc0_scratch0 fb (nodes m d))).trans ?_
    exact nodes_apply m d _
  have k0_h2 : k0_chk1 (coordsS ⟨0, h⟩) (body₀.sl.r m d h fb) := by
    rw [e]; unfold k0_chk1 k0_off1; intro _ a
    have := hR
    fin_cases a
    · show (nodeW m d).toNat + 1 ≤ 100000; unfold InRange at this; omega
    · show 0 + 128 ≤ 128; omega
  sl_exec
  sl_step
  have er : body₀.sl.dma0_1 m d h k0_h1 fb k0_h2 = z1 m d := by
    unfold body₀.sl.dma0_1
    exact row_read m d hR _ e _
  rw [er]
  isplitl [Hn' Ht' Hr']
  · isplitl [Hn']; · iapply (Entails.of_eq (pts_n (F := F) d _ _)); iexact Hn'
    isplitl [Ht']; · iapply (Entails.of_eq (pts_t (F := F) d _ _)); iexact Ht'
    iapply (Entails.of_eq (pts_r (F := F) d _ _))
    iapply (Entails.of_eq (congrArg (fun g => ((rW).view.loc (S0 d h) ↦{fullShare} g : sProp 𝕄)) (View.write_whole_univ main_v2_scs fr (z1 m d))))
    iexact Hr'
  isplitl [Hvb Hbrest Hb]
  · iapply (Entails.of_eq ((K (F := F)).scopedBufs_S launchFacts d _).symm)
    isplitl [Hbrest Hb]
    · iapply (Entails.of_eq (ownBufs_S (F := F) d _).symm)
      isplitl [Hb]
      · iexists _; iexact Hb
      · iexact Hbrest
    · iexact Hvb
  isplitl [HsA HsB Hrest Hsubs]
  · iapply (SparseCore.Cfg.scopedSems0_S_intro (Val := Elt F) d _)
    isplitl [HsA HsB Hrest]
    · rw [ownSems0_S]
      isplitl [HsA]; · iexact HsA
      isplitl [HsB]; · iexact HsB
      iexact Hrest
    · iexact Hsubs
  iexists (insert (SemLoc.dma cc0_scratch1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

/-- SparseCore 1's sequencer thread. -/
abbrev S1 (h : 1 < grid0.bound 0) : Thread nD τ := S d ((⟨1, h⟩ : Fin (grid0.bound 0)).castLE hcore0)

/-- The kernel on SparseCore 1's sequencer does nothing. -/
theorem body₁ (h : 1 < grid0.bound 0) (O : CellTallies nD τ sig (HIx 1)) (W : Waits sig (HIx 1)) :
    iprop(levAts (K (F := F)).L (K (F := F)).lev ∗ emp ∗ before m d 1
        ∗ scopedBufs (S1 d h) ∗ scopedSems0 (S1 d h) ∗ owes (S1 d h) O W)
      ⊢ wp frame (wpE (defs₀ (F := F)) 𝒱₀ (S1 d h) none) Set.univ
          (cc0__sc_gather_body (coordsS ⟨1, h⟩) nW (Memref.isWhole_whole _) tW (Memref.isWhole_whole _) rW (Memref.isWhole_whole _) bW (Memref.isWhole_whole _) cc0_scratch1 cc0_scoped0)
          fun _ => iprop(after m d 1 ∗ scopedBufs (S1 d h) ∗ scopedSems0 (S1 d h) ∗ ∃ W', ⌜∀ p ∈ W', p ∈ W ∨ p.2 = none⌝ ∗ owes (S1 d h) O W') := by
  have k0_h1 : ¬ k0_cond1 (coordsS ⟨1, h⟩) = 1#1 := by decide +revert
  simp only [cc0__sc_gather_body_eq_skeleton]; unfold cc0__sc_gather_body_skel
  rw [before_one, after_one]
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Body

/-! ## The launch theorem's obligation -/

theorem defs₀_scalar (c : Fin τ.nSC) :
    defs₀ (F := F) (.scScalar c) 0 ()
      = SparseCore.onCore hcore0 (fun c => cc0__sc_gather_body (coordsS c) nW (Memref.isWhole_whole _) tW (Memref.isWhole_whole _) rW (Memref.isWhole_whole _) bW (Memref.isWhole_whole _) cc0_scratch1 cc0_scoped0) ⟨⟩ c := rfl

omit [FloatOps F] in
/-- The waits recorded during the call are within what the handshake allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's obligation: SparseCore 0's sequencer runs `body₀`, SparseCore 1's `body₁`. -/
theorem scalarObl (hR : ∀ d, InRange m d) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ before m d c.val ∗ _) ⊢ wp _ _ _ _ (fun _ => iprop(after m d c.val ∗ _))
  match c with
  | ⟨0, h⟩ => exact (body₀ m d (hR d) h O W hO).trans (wp_mono frame _ _ fun _ => obl_post)
  | ⟨1, h⟩ => exact (body₁ m d h O W).trans (wp_mono frame _ _ fun _ => obl_post)

end Cert.Proof.Run

end
-- ==== Proof.TcBody.lean ====
/-
  The TensorCore kernel's body, run once per kind of grid point: a point below 5 computes one block of products and
  folds it into the running maximum and sum; point 5 stores the result.
-/
module

public import proofs.«01_k».proof.Proof.Launch
public import Idealize.ShloMosaic.Lib.VecWindow

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2)
open Idealize.ShloMosaic.Tactic

variable {F : FTy → Type} [FloatOps F]

local notation "𝕄" => MT nD τ sig (HIx 1) (Elt F) ℕ UU ℕ

/-- The kernel's two scratch buffers: the block rows, and the running maximum and sum. -/
abbrev rowsM : Memref sig .tc .vmem S5x20480 .f32 := Memref.whole cc1_scratch0
abbrev statM : Memref sig .tc .smem S2 .f32 := Memref.whole cc1_scratch1

/-- The rows scratch with row `j` overwritten. -/
def setRow (f : Vec F S5x20480 .f32) (j : ℕ) (w : Vec F S1x20480 .f32) : Vec F S5x20480 .f32 :=
  fun x => if (x 0).val = j then w (ix2 0 (x 1)) else f x

/-- The two scalars as a buffer. -/
def pair (a b : F .f32) : Vec F S2 .f32 := fun x => if (x 0).val = 0 then a else b

/-! ## The scratch buffers' loads and stores, read as the values above -/

theorem off_row (i : grid1.Coords) : k1_off1 i = ![(i 0).val, 0] := by
  have h : ∀ n : Fin 6, (Scalar.indexCast (BitVec.ofNat 32 n.val)).toNat = n.val := by decide
  show ![(Scalar.indexCast (BitVec.ofNat 32 (i 0).val)).toNat, 0] = _
  rw [h (i 0)]

/-- A store of a row is the row overwritten. -/
theorem writes_row (f : Vec F S5x20480 .f32) (i : grid1.Coords) (inb : ∀ a, k1_off1 i a + S1x20480.size a ≤ S5x20480.size a)
    (w : Vec F S1x20480 .f32) :
    rowsM.view.writes (Elt F) f [⟨Rect.unit (s := S5x20480) (k1_off1 i) S1x20480.size inb, w⟩] = setRow f (i 0).val w := by
  refine (View.read_whole (Val := Elt F) cc1_scratch0 _).symm.trans (funext fun x => ?_)
  unfold setRow
  split
  · next h =>
    refine View.read_writes_cons_unit_of_mem rowsM.view f inb w [] x (ix2 0 (x 1)) (off_row i) fun a => ?_
    fin_cases a
    · show (x 0).val = (i 0).val + 0; omega
    · show (x 1).val = 0 + (x 1).val; omega
  · next h =>
    refine View.read_writes_cons_unit_of_not_mem rowsM.view f inb w [] x (off_row i) 0 ?_
    show (x 0).val < (i 0).val ∨ (i 0).val + 1 ≤ (x 0).val
    omega

/-- Stores of both scalars are the pair of them. -/
theorem writes_pair (g : Vec F S2 .f32) (a b : F .f32) :
    statM.view.writes (Elt F) g [⟨Rect.unit (s := S2) ![1] S1.size inb_S2_S1_1, fun _ => b⟩, ⟨Rect.unit (s := S2) ![0] S1.size inb_S2_S1_0, fun _ => a⟩] = pair a b := by
  funext x
  show statM.view.read (Elt F) (statM.view.writes (Elt F) g [⟨Rect.unit (s := S2) ![1] S1.size inb_S2_S1_1, fun _ => b⟩, ⟨Rect.unit (s := S2) ![0] S1.size inb_S2_S1_0, fun _ => a⟩]) x = _
  have hx : (x 0).val < 2 := (x 0).isLt
  unfold pair
  split
  · next h =>
    refine (View.read_writes_cons_unit_of_not_mem statM.view g inb_S2_S1_1 (fun _ => b) _ x rfl 0 (.inl ?_)).trans
      (View.read_writes_cons_unit_of_mem statM.view g inb_S2_S1_0 (fun _ => a) [] x (ix1 0) rfl fun d => ?_)
    · show (x 0).val < 1; omega
    · fin_cases d; show (x 0).val = 0 + 0; omega
  · next h =>
    refine View.read_writes_cons_unit_of_mem statM.view g inb_S2_S1_1 (fun _ => b) _ x (ix1 0) rfl fun d => ?_
    fin_cases d; show (x 0).val = 1 + 0; omega

/-- A load of row `j`. -/
theorem read_row (f : Vec F S5x20480 .f32) (j : Fin 5) {off : Fin 2 → ℕ} (ho : off = ![j.val, 0])
    (inb : ∀ a, off a + S1x20480.size a ≤ S5x20480.size a) :
    View.readAt (Elt F) rowsM.view (Rect.unit (s := S5x20480) off S1x20480.size inb).toLoadRect f = fun k : S1x20480.Idx => f (ix2 j (k 1)) := by
  subst ho
  funext k
  show f _ = f _
  congr 1
  funext a
  have hk : (k 0).val < 1 := (k 0).isLt
  fin_cases a
  · apply Fin.ext; show j.val + 1 * (k 0).val = j.val; omega
  · apply Fin.ext; show 0 + 1 * (k 1).val = (k 1).val; omega

/-- Loads of the two scalars. -/
theorem read_fst (x y : F .f32) (k : S1.Idx) :
    View.readAt (Elt F) statM.view (Rect.unit (s := S2) ![0] S1.size inb_S2_S1_0).toLoadRect (pair x y) k = x := by
  have hk : (k 0).val < 1 := (k 0).isLt
  exact if_pos (show 0 + 1 * (k 0).val = 0 by omega)
theorem read_snd (x y : F .f32) (k : S1.Idx) :
    View.readAt (Elt F) statM.view (Rect.unit (s := S2) ![1] S1.size inb_S2_S1_1).toLoadRect (pair x y) k = y :=
  if_neg (show ¬ 1 + 1 * (k 0).val = 0 by omega)

variable (c : Dev nD)

/-- A point below 5. -/
theorem step_run (i : grid1.Coords) (hc1 : k1_cond1 i = 1#1) (hc2 : ¬ k1_cond2 i = 1#1)
    (arg1 : Memref sig .tc .vmem S1x128 .f32) (h1 : arg1.IsWhole) (arg2 : Memref sig .tc .vmem S20480x128 .f32) (h2 : arg2.IsWhole)
    (arg3 : Memref sig .tc .vmem S100000 .f32) (h3 : arg3.IsWhole)
    (z : Vec F S1x128 .f32) (b : Vec F S20480x128 .f32) (o : Vec F S100000 .f32) (f : Vec F S5x20480 .f32) (x y : F .f32)
    (Q : PUnit → sProp 𝕄) :
    iprop(owns (c : Thread nD τ) arg1 fullShare z ∗ owns (c : Thread nD τ) arg2 fullShare b ∗ owns (c : Thread nD τ) arg3 fullShare o
        ∗ (rowsM.view.loc (c : Thread nD τ) ↦{fullShare} f) ∗ (statM.view.loc (c : Thread nD τ) ↦{fullShare} pair x y)
        ∗ (iprop(owns (c : Thread nD τ) arg1 fullShare z ∗ owns (c : Thread nD τ) arg2 fullShare b ∗ owns (c : Thread nD τ) arg3 fullShare o
            ∗ (rowsM.view.loc (c : Thread nD τ) ↦{fullShare} setRow f (i 0).val (k1_pay3 (BitVec.ofNat 32 (i 0).val) z b))
            ∗ (statM.view.loc (c : Thread nD τ) ↦{fullShare} pair (k1_pay5 (BitVec.ofNat 32 (i 0).val) z b x) (k1_pay6 (BitVec.ofNat 32 (i 0).val) z b x y))) -∗ Q ⟨⟩))
      ⊢ wp frame (wpE (defs₀ (F := F)) 𝒱₀ (c : Thread nD τ) none) Set.univ
          (cc1__fused_body i arg1 h1 arg2 h2 arg3 h3 rowsM (Memref.isWhole_whole _) statM (Memref.isWhole_whole _)) Q := by
  rw [cc1__fused_body_eq_skeleton]; unfold cc1__fused_body_skel
  rw [k1_part1_eq_skeleton]; unfold k1_part1_skel
  unfold owns
  iintro ⟨⟨%f1, %e1, H1⟩, ⟨%f2, %e2, H2⟩, H3, Hr, Hs, Hk⟩
  sl_exec
  sl_step
  have r0 : step_run.sl.r x y = x := read_fst x y _
  have r1 : step_run.sl.r_1 x y = y := read_snd x y _
  rw [r0, r1, View.readAt_full arg1.view f1 inb_S1x128_S1x128_0_0, View.readAt_full arg2.view f2 inb_S20480x128_S20480x128_0_0, e1, e2,
    writes_row, writes_pair]
  iapply Hk
  isplitl [H1]
  · iexists _; isplitr; swap; · iexact H1
    ipureintro; exact e1
  isplitl [H2]
  · iexists _; isplitr; swap; · iexact H2
    ipureintro; exact e2
  isplitl [H3]; · iexact H3
  isplitl [Hr]; · iexact Hr
  iexact Hs

/-- The last point. -/
theorem last_run (i : grid1.Coords) (hc1 : ¬ k1_cond1 i = 1#1) (hc2 : k1_cond2 i = 1#1)
    (arg1 : Memref sig .tc .vmem S1x128 .f32) (h1 : arg1.IsWhole) (arg2 : Memref sig .tc .vmem S20480x128 .f32) (h2 : arg2.IsWhole)
    (arg3 : Memref sig .tc .vmem S100000 .f32) (h3 : arg3.IsWhole)
    (o : Vec F S100000 .f32) (f : Vec F S5x20480 .f32) (x y : F .f32)
    (Q : PUnit → sProp 𝕄) :
    iprop(owns (c : Thread nD τ) arg3 fullShare o
        ∗ (rowsM.view.loc (c : Thread nD τ) ↦{fullShare} f) ∗ (statM.view.loc (c : Thread nD τ) ↦{fullShare} pair x y)
        ∗ (iprop(owns (c : Thread nD τ) arg3 fullShare (k1_pay1 x y (fun k => f (ix2 0 (k 1))) (fun k => f (ix2 1 (k 1))) (fun k => f (ix2 2 (k 1))) (fun k => f (ix2 3 (k 1))) (fun k => f (ix2 4 (k 1))))
            ∗ (rowsM.view.loc (c : Thread nD τ) ↦{fullShare} f)
            ∗ (statM.view.loc (c : Thread nD τ) ↦{fullShare} pair x y)) -∗ Q ⟨⟩))
      ⊢ wp frame (wpE (defs₀ (F := F)) 𝒱₀ (c : Thread nD τ) none) Set.univ
          (cc1__fused_body i arg1 h1 arg2 h2 arg3 h3 rowsM (Memref.isWhole_whole _) statM (Memref.isWhole_whole _)) Q := by
  rw [cc1__fused_body_eq_skeleton]; unfold cc1__fused_body_skel
  unfold owns
  iintro ⟨⟨%f3, %e3, H3⟩, Hr, Hs, Hk⟩
  sl_exec
  sl_step
  have r0 : last_run.sl.r x y = x := read_fst x y _
  have r1 : last_run.sl.r_1 x y = y := read_snd x y _
  rw [r0, r1, read_row f 0 (off := ![0, 0]) rfl inb_S5x20480_S1x20480_0_0, read_row f 1 (off := ![1, 0]) rfl inb_S5x20480_S1x20480_1_0, read_row f 2 (off := ![2, 0]) rfl inb_S5x20480_S1x20480_2_0,
    read_row f 3 (off := ![3, 0]) rfl inb_S5x20480_S1x20480_3_0, read_row f 4 (off := ![4, 0]) rfl inb_S5x20480_S1x20480_4_0]
  iapply Hk
  isplitl [H3]
  · iexists _; isplitr; swap; · iexact H3
    ipureintro; exact View.read_writes_full arg3.view f3 inb_S100000_S100000_0 _ []
  isplitl [Hr]; · iexact Hr
  iexact Hs

end Cert.Proof.Run

end
-- ==== Proof.Region.lean ====
/-
  The TensorCore pipeline's proof data: what its scratch buffers hold before each grid point, what its windows' buffers
  hold, and what the body leaves. The last block of the second argument overhangs the array, so the staging buffer's rows
  past its end hold anything: the state is a relation that names such rows by an unknown.
-/
module

public import proofs.«01_k».proof.Proof.TcBody

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2)
open Idealize.ShloMosaic.Pipeline (RDat)

variable {F : FTy → Type} [FloatOps F]

local notation "𝕄" => MT nD τ sig (HIx 1) (Elt F) ℕ UU ℕ

variable (m : (ℓ : Loc nD τ sig) → Buf (Elt F) ℓ)

/-! ## The state of the scratch buffers -/

/-- The running maximum and sum after `n` blocks `B 0 … B (n-1)`, from whatever the two scalars held at first. -/
def stat (z : Vec F S1x128 .f32) (B : ℕ → Vec F S20480x128 .f32) (x y : F .f32) : ℕ → F .f32 × F .f32
  | 0 => (x, y)
  | n + 1 => (k1_pay5 (BitVec.ofNat 32 n) z (B n) (stat z B x y n).1,
      k1_pay6 (BitVec.ofNat 32 n) z (B n) (stat z B x y n).1 (stat z B x y n).2)

/-- The block `b` holds the second argument's rows from `20480 * j` on, wherever these lie inside it. -/
def Block (d : Dev nD) (j : ℕ) (b : Vec F S20480x128 .f32) : Prop :=
  ∀ (r : Fin 20480) (k : Fin 128) (h : 20480 * j + r.val < 100000), b (ix2 r k) = arg1 m d (ix2 ⟨20480 * j + r.val, h⟩ k)

/-- After `n` blocks the scratch buffers hold `f` and the scalars `x`, `y`. -/
def State (d : Dev nD) (n : ℕ) (f : Vec F S5x20480 .f32) (x y : F .f32) : Prop :=
  ∃ (B : ℕ → Vec F S20480x128 .f32) (x0 y0 : F .f32), (∀ j, j < n → Block m d j (B j))
    ∧ (∀ (j : Fin 5) (l : Fin 20480), j.val < n → f (ix2 j l) = k1_pay3 (BitVec.ofNat 32 j.val) (z1 m d) (B j.val) (ix2 0 l))
    ∧ x = (stat (z1 m d) B x0 y0 n).1 ∧ y = (stat (z1 m d) B x0 y0 n).2

theorem state_zero (d : Dev nD) (f : Vec F S5x20480 .f32) (x y : F .f32) : State m d 0 f x y :=
  ⟨fun _ _ => x, x, y, fun _ h => absurd h (Nat.not_lt_zero _), fun _ _ h => absurd h (Nat.not_lt_zero _), rfl, rfl⟩

theorem stat_congr (z : Vec F S1x128 .f32) (B B' : ℕ → Vec F S20480x128 .f32) (x y : F .f32) :
    ∀ n, (∀ j, j < n → B j = B' j) → stat z B x y n = stat z B' x y n
  | 0, _ => rfl
  | n + 1, h => by
    have ih := stat_congr z B B' x y n fun j hj => h j (Nat.lt_succ_of_lt hj)
    simp only [stat]
    rw [ih, h n (Nat.lt_succ_self n)]

/-- One more block. -/
theorem state_succ (d : Dev nD) (n : ℕ) (f : Vec F S5x20480 .f32) (x y : F .f32) (b : Vec F S20480x128 .f32)
    (hs : State m d n f x y) (hb : Block m d n b) :
    State m d (n + 1) (setRow f n (k1_pay3 (BitVec.ofNat 32 n) (z1 m d) b))
      (k1_pay5 (BitVec.ofNat 32 n) (z1 m d) b x) (k1_pay6 (BitVec.ofNat 32 n) (z1 m d) b x y) := by
  obtain ⟨B, x0, y0, hB, hf, hx, hy⟩ := hs
  have hst : stat (z1 m d) B x0 y0 n = stat (z1 m d) (Function.update B n b) x0 y0 n :=
    stat_congr _ _ _ _ _ _ fun j hj => (Function.update_of_ne (Nat.ne_of_lt hj) _ _).symm
  refine ⟨Function.update B n b, x0, y0, fun j hj => ?_, fun j l hj => ?_, ?_, ?_⟩
  · by_cases h : j = n
    · subst h; rw [Function.update_self]; exact hb
    · rw [Function.update_of_ne h]; exact hB j (by omega)
  · unfold setRow
    by_cases h : j.val = n
    · rw [if_pos (show ((ix2 j l : S5x20480.Idx) 0).val = n from h), h, Function.update_self]
    · rw [if_neg (show ¬ ((ix2 j l : S5x20480.Idx) 0).val = n from h), Function.update_of_ne h]
      exact hf j l (by omega)
  · simp only [stat]; rw [← hst, Function.update_self, hx]
  · simp only [stat]; rw [← hst, Function.update_self, hx, hy]

/-- The result the body may store at the last point. -/
def Out (d : Dev nD) (o : Vec F S100000 .f32) : Prop :=
  ∃ (f : Vec F S5x20480 .f32) (x y : F .f32), State m d 5 f x y
    ∧ o = k1_pay1 x y (fun k => f (ix2 0 (k 1))) (fun k => f (ix2 1 (k 1))) (fun k => f (ix2 2 (k 1))) (fun k => f (ix2 3 (k 1)))
        (fun k => f (ix2 4 (k 1)))

/-! ## The proof data -/

/-- The contents of the TensorCore's arrays when the pipeline starts: the three values of @main so far, and the launch's. -/
def arrs (d : Dev nD) : (w : Fin cfg1.W) → Buf (Elt F) ((cfg1.win w).arr.view.loc (d : Thread nD τ))
  | ⟨0, _⟩ => z1 m d
  | ⟨1, _⟩ => arg1 m d
  | ⟨2, _⟩ => m ((SparseCore.T d).loc main_v3)

/-- The pairs the TensorCore's waits may have recorded once the SparseCore call is over. -/
def recd (d : Dev nD) : Set (SemLoc sig × HIx 1) := {p | (K (F := F)).lev (SparseCore.T d, p.1) p.2 ≤ 8}

/-- The body's invariant after `n` blocks: the two scratch buffers in such a state. -/
abbrev inv (d : Dev nD) (n : ℕ) : sProp 𝕄 :=
  iprop(∃ (f : Vec F S5x20480 .f32) (x y : F .f32), ⌜State m d n f x y⌝
    ∗ (rowsM.view.loc (d : Thread nD τ) ↦{fullShare} f) ∗ (statM.view.loc (d : Thread nD τ) ↦{fullShare} pair x y))

/-- The proof data of the pipeline on device `d`. -/
def rdat (d : Dev nD) : RDat τ (Elt F) (HIx 1) ℕ UU ℕ cfg1 d where
  A := arrs m d
  after w t := match w with
    | ⟨0, _⟩ => fun Y X => X = Y
    | ⟨1, _⟩ => fun Y X => X = Y
    | ⟨2, _⟩ => fun _ X => t.val = 5 → Out m d X
  Φ t := inv m d (min t.val 5)
  q _ := fullShare
  owed _ := 0
  recorded _ := recd (F := F) d

/-- Where the second argument's window ends inside the array, and that its columns are all moved. -/
theorem xsize_1 (t : Fin grid1.N) (h : t.val < 5) :
    20480 * t.val + win1_1.xsize (grid1.coords t) 0 = min (20480 * t.val + 20480) 100000 ∧ win1_1.xsize (grid1.coords t) 1 = 128
      ∧ win1_1.index t 0 = t.val ∧ win1_1.index t 1 = 0 := by
  rcases fin_N1 t with rfl | rfl | rfl | rfl | rfl | rfl <;> first | (exfalso; revert h; decide) | decide +kernel

theorem fetched_0 (d : Dev nD) (t : Fin cfg1.N) (X : Vec F S1x128 .f32) : (rdat m d).fetched (0 : Fin 3) t X = z1 m d := by
  funext j
  show z1 m d ((win1_0.blk t).view.emb fun a => ⟨(j a).val, _⟩) = z1 m d j
  refine congrArg (z1 m d) (funext fun a => Fin.ext ?_)
  have h0 : ∀ t : Fin grid1.N, win1_0.index t 0 = 0 ∧ win1_0.index t 1 = 0 := fun _ => ⟨rfl, rfl⟩
  fin_cases a
  · show win1_0.index t 0 * 1 + 1 * (j 0).val = (j 0).val
    rw [(h0 t).1]; omega
  · show win1_0.index t 1 * 128 + 1 * (j 1).val = (j 1).val
    rw [(h0 t).2]; omega

theorem fetched_1 (d : Dev nD) (t : Fin cfg1.N) (ht : t.val < 5) (X : Vec F S20480x128 .f32) :
    Block m d t.val ((rdat m d).fetched (1 : Fin 3) t X) := by
  intro r k h
  obtain ⟨h0, h1, h2, h3⟩ := xsize_1 t ht
  have hm : win1_1.moved (grid1.coords t) (ix2 r k) = true := (win1_1.moved_iff _ _).mpr fun a => by
    fin_cases a
    · show r.val < win1_1.xsize (grid1.coords t) 0
      omega
    · show k.val < win1_1.xsize (grid1.coords t) 1
      omega
  unfold RDat.fetched Pipeline.Window.fill
  refine (dif_pos hm).trans ?_
  show arg1 m d ((win1_1.blk t).view.emb fun a => ⟨((ix2 r k : S20480x128.Idx) a).val, _⟩) = _
  refine congrArg (arg1 m d) (funext fun a => Fin.ext ?_)
  fin_cases a
  · show win1_1.index t 0 * 20480 + 1 * r.val = 20480 * t.val + r.val
    omega
  · show win1_1.index t 1 * 128 + 1 * k.val = k.val
    omega

/-! ## What the body finds -/

theorem fetch_1 (t : Fin cfg1.N) (h : t.val < 5) : (cfg1.win (1 : Fin 3)).fetch t = true := by
  rcases fin_N1 t with rfl | rfl | rfl | rfl | rfl | rfl <;> first | (exfalso; revert h; decide) | decide +kernel

/-- The gathered row's buffer holds the gathered row at every point. -/
theorem finds_0 (d : Dev nD) : ∀ (n : ℕ) (t : Fin cfg1.N) (_ : t.val = n) (Y : Vec F S1x128 .f32),
    (rdat m d).Finds (0 : Fin 3) t Y → Y = z1 m d
  | 0, t, ht, Y, h => by
    obtain ⟨X, rfl⟩ := ((rdat m d).finds_of_fetch ((fetch1_0 t).mpr (by omega)) Y).mp h
    exact fetched_0 m d t X
  | n + 1, t, ht, Y, h => by
    have hlt : t.val < 6 := lt_of_lt_of_eq t.isLt N_1
    have hf : (cfg1.win (0 : Fin 3)).fetch t = false := by
      rw [Bool.eq_false_iff]; intro h'; have := (fetch1_0 t).mp h'; omega
    rcases ((rdat m d).finds_of_pos hf (by omega) Y).mp h with h' | ⟨X, hX, hY⟩
    · exact absurd h' (fun e => Bool.false_ne_true ((show win1_0.flush _ = false from rfl).symm.trans e))
    · have hY : Y = X := hY
      rw [hY]; exact finds_0 d n _ (by show t.val - 1 = n; omega) X hX

/-- The block's buffer holds the point's block below point 5. -/
theorem finds_1 (d : Dev nD) (t : Fin cfg1.N) (ht : t.val < 5) (Y : Vec F S20480x128 .f32)
    (h : (rdat m d).Finds (1 : Fin 3) t Y) : Block m d t.val Y := by
  obtain ⟨X, rfl⟩ := ((rdat m d).finds_of_fetch (fetch_1 t ht) Y).mp h
  exact fetched_1 m d t ht X

/-! ## The body's obligation -/

theorem point_facts (t : Fin grid1.N) : (grid1.coords t 0).val = t.val
    ∧ (t.val < 5 → k1_cond1 (grid1.coords t) = 1#1 ∧ ¬ k1_cond2 (grid1.coords t) = 1#1)
    ∧ (¬ t.val < 5 → ¬ k1_cond1 (grid1.coords t) = 1#1 ∧ k1_cond2 (grid1.coords t) = 1#1) := by
  rcases fin_N1 t with rfl | rfl | rfl | rfl | rfl | rfl <;> decide

theorem defs₀_row (t : Fin cfg1.N) : defs₀ (F := F) .tc cfg1.body (cfg1.bodyArgs t (cfg1.slots t)) = bodyAt1 t := rfl

theorem body (d : Dev nD) : (rdat m d).BodyObligation defs₀ 𝒱₀ none Set.univ := by
  intro t Y hY
  rw [defs₀_row, bigSep_W1, bigSep_W1]
  obtain ⟨hc, hstep, hlast⟩ := point_facts t
  have e0 : Y (0 : Fin 3) = z1 m d := finds_0 m d t.val t rfl _ (hY 0)
  have hlt : t.val < 6 := lt_of_lt_of_eq t.isLt N_1
  rw [e0]
  unfold rdat
  dsimp only [Fin.val_castSucc, Fin.val_succ]
  iintro ⟨⟨%f, %x, %y, %hs, Hr, Hs⟩, HO, H0, H1, H2⟩
  by_cases ht : t.val < 5
  · obtain ⟨hc1, hc2⟩ := hstep ht
    rw [Nat.min_eq_left (show t.val ≤ 5 by omega)] at hs
    iapply (step_run d (grid1.coords t) hc1 hc2 (st1_0 t) _ (st1_1 t) _ (st1_2 t) _ (z1 m d) (Y (1 : Fin 3)) (Y (2 : Fin 3)) f x y _)
      $$ [Hr Hs HO H0 H1 H2]
    isplitl [H0]; · iexact H0
    isplitl [H1]; · iexact H1
    isplitl [H2]; · iexact H2
    isplitl [Hr]; · iexact Hr
    isplitl [Hs]; · iexact Hs
    iintro ⟨H0, H1, H2, Hr, Hs⟩
    rw [hc]
    isplitl [Hr Hs]
    · iexists _; iexists _; iexists _
      isplitr; swap
      · isplitl [Hr]; · iexact Hr
        iexact Hs
      ipureintro
      rw [Nat.min_eq_left (show t.val + 1 ≤ 5 by omega)]
      exact state_succ m d t.val f x y _ hs (finds_1 m d t ht _ (hY 1))
    isplitl [HO]; · iexact HO
    isplitl [H0]
    · iexists _; isplitr; swap; · iexact H0
      ipureintro; rfl
    isplitl [H1]
    · iexists _; isplitr; swap; · iexact H1
      ipureintro; rfl
    · iexists _; isplitr; swap; · iexact H2
      ipureintro; intro h; omega
  · obtain ⟨hc1, hc2⟩ := hlast ht
    rw [Nat.min_eq_right (show 5 ≤ t.val by omega)] at hs
    iapply (last_run d (grid1.coords t) hc1 hc2 (st1_0 t) _ (st1_1 t) _ (st1_2 t) _ (Y (2 : Fin 3)) f x y _)
      $$ [Hr Hs HO H0 H1 H2]
    isplitl [H2]; · iexact H2
    isplitl [Hr]; · iexact Hr
    isplitl [Hs]; · iexact Hs
    iintro ⟨H2, Hr, Hs⟩
    isplitl [Hr Hs]
    · iexists _; iexists _; iexists _
      isplitr; swap
      · isplitl [Hr]; · iexact Hr
        iexact Hs
      ipureintro
      rw [Nat.min_eq_right (show 5 ≤ t.val + 1 by omega)]
      exact hs
    isplitl [HO]; · iexact HO
    isplitl [H0]
    · iexists _; isplitr; swap; · iexact H0
      ipureintro; rfl
    isplitl [H1]
    · iexists _; isplitr; swap; · iexact H1
      ipureintro; rfl
    · iexists _; isplitr; swap; · iexact H2
      ipureintro; exact fun _ => ⟨f, x, y, hs, rfl⟩

/-! ## The result's array -/

theorem flush_2_below (t : Fin cfg1.N) (h : t.val ≠ 5) : (cfg1.win (2 : Fin 3)).flush t = false := by
  have hlt : t.val < 6 := lt_of_lt_of_eq t.isLt N_1
  rw [Bool.eq_false_iff]; intro h'; have := (flush1_2 t).mp h'; omega

/-- What the result's array may hold at the end. -/
theorem arr_2 (d : Dev nD) (G : Buf (Elt F) ((SparseCore.T d).loc main_v3)) (h : (rdat m d).ArrAt (2 : Fin 3) cfg1.N G) : Out m d G := by
  have h6 : (rdat m d).ArrAt (2 : Fin 3) (t1_5.val + 1) G := h
  rw [RDat.ArrAt_succ, if_pos ((flush1_2 t1_5).mpr rfl)] at h6
  obtain ⟨G₀, X, -, ⟨Y, -, hX⟩, hG⟩ := h6
  have hX : Out m d X := hX rfl
  have hGX : G = X := by
    rw [hG]
    funext j
    have hj : (win1_2.blk t1_5).view.emb j = j := funext fun a => Fin.ext (by
      fin_cases a
      show 0 * 100000 + 1 * (j 0).val = (j 0).val
      omega)
    have := View.write_emb_of_mem (v := (win1_2.blk t1_5).view) G₀ (win1_2.cut (grid1.coords t1_5) X) (Finset.mem_univ j)
    rw [hj] at this
    exact this
  rw [hGX]; exact hX

end Cert.Proof.Run

end
-- ==== Proof.Run.lean ====
/-
  The program's run: @main's two host operations, the SparseCore call, the TensorCore pipeline, and the launch of all
  threads. `run_main` says what the result holds and that the arguments are unchanged.
-/
module

public import Idealize.ShloMosaic.Lib.Pipeline.RegionArrays
public import proofs.«01_k».proof.Proof.Gather
public import proofs.«01_k».proof.Proof.Region

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx (ix0 ix1 ix2)
open Idealize.ShloMosaic.Pipeline (RDat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The pipeline's region -/

abbrev adm : (p : Fin 1) → (pcfgs (F := F) p).Adm := fun p => (cfgs p).toPCfg_adm

def rdats : (p : Fin 1) → (d : Dev nD) → RDat τ (Elt F) (HIx 1) ℕ UU ℕ (Pipeline.pin (pcfgs (F := F)) adm p) d := fun _ d => rdat m d

/-- Two scalars' buffer is the pair of them. -/
theorem pair_eta (g : Vec F S2 .f32) : g = pair (g (ix1 0)) (g (ix1 1)) := by
  funext x
  have hx : (x 0).val < 2 := (x 0).isLt
  unfold pair
  split
  · next h => exact congrArg g (funext fun a => by fin_cases a; exact Fin.ext h)
  · next h => exact congrArg g (funext fun a => by fin_cases a; exact Fin.ext (by show (x 0).val = 1; omega))

/-- The core's state of debts between the calls: nothing owed, every recorded wait at or below the SparseCore call's. -/
abbrev idle (d : Dev nD) : sProp 𝕄 := iprop(∃ W, ⌜(K (F := F)).WBelow (SparseCore.T d) W 8⌝ ∗ owes (SparseCore.T d) 0 W)

/-- What the pipeline is entered from: its three arrays and no debt; -/
abbrev regPre (c : Dev nD) : sProp 𝕄 :=
  iprop((((SparseCore.T c).loc main_v2 ↦{fullShare} z1 m c) ∗ ((SparseCore.T c).loc main_arg1 ↦{fullShare} arg1 m c)
    ∗ ((SparseCore.T c).loc main_v3 ↦{fullShare} m ((SparseCore.T c).loc main_v3))) ∗ idle c)
/-- and what it leaves of them: the second argument unchanged, the result at some value it may store. -/
abbrev regPost (c : Dev nD) : sProp 𝕄 :=
  iprop(((SparseCore.T c).loc main_arg1 ↦{fullShare} arg1 m c)
    ∗ (∃ o : Vec F S100000 .f32, ⌜Out m c o⌝ ∗ ((SparseCore.T c).loc main_v3 ↦{fullShare} o)) ∗ idle c)

/-- The pipeline's region. -/
def seg : RDat.RegionSeg (pcfgs (F := F)) adm (rdats m) none defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody := fun c => body m c
  hwaits := fun c => RDat.hwaits_of_owed_zero (pcfgs (F := F)) adm (rdats m) none (K (F := F)).L (K (F := F)).lev 0 (fun _ _ => rfl) c
  pre := regPre m
  post := regPost m
  X _ := iprop(emp)
  Y _ := iprop(emp)
  Z _ := iprop(emp)
  hentry c := by
    rw [Pipeline.ownSems0_none, Pipeline.prefHeld_of_none _ rfl,
      RDat.arrays_eq (pcfgs (F := F)) adm (rdats m) 0 c launch1.arr_whole (fun w => by fin_cases w <;> rfl)]
    show _ ⊢ |={Set.univ}=> iprop((bigSep (Finset.univ : Finset (Fin 3)) _) ∗ _)
    rw [bigSep_W1]
    iintro ⟨⟨⟨H2, H1, H3⟩, %W, %hW, HO⟩, -, -⟩
    imodintro
    isplitl [H2 H1 H3]
    · isplitl [H2]; · iexact H2
      isplitl [H1]; · iexact H1
      iexact H3
    isplitr; · iempintro
    isplitl [HO]
    · iexists W; isplitr
      · ipureintro; exact fun p hp => Or.inl (hW p hp)
      iexact HO
    isplitr <;> iempintro
  hin c := by
    show iprop(_ ∗ _ ∗ Pipeline.scopedRest spec1 c) ⊢ inv m c 0
    rw [scopedRest1_eq]
    iintro ⟨-, -, ⟨%f, Hf⟩, %g, Hg⟩
    iexists f; iexists (g (ix1 0)); iexists (g (ix1 1))
    isplitr; · ipureintro; exact state_zero m c f _ _
    isplitl [Hf]; · iexact Hf
    rw [← pair_eta]; iexact Hg
  hout c := by
    show inv m c 5 ⊢ iprop(_ ∗ _ ∗ Pipeline.scopedRest spec1 c)
    rw [scopedRest1_eq, Pipeline.ownSems0_none]
    iintro ⟨%f, %x, %y, -, Hf, Hg⟩
    isplitr; · iempintro
    isplitr; · iempintro
    isplitl [Hf]
    · iexists f; iexact Hf
    · iexists _; iexact Hg
  hexit c := by
    rw [RDat.arraysAt_eq (pcfgs (F := F)) adm (rdats m) 0 c launch1.arr_whole (fun w => by fin_cases w <;> rfl)]
    show iprop((bigSep (Finset.univ : Finset (Fin 3)) _) ∗ _) ⊢ _
    rw [bigSep_W1]
    iintro ⟨⟨-, ⟨%G1, %h1, H1⟩, %G2, %h2, H2⟩, ⟨%W, %hW, HO⟩, -, -⟩
    imodintro
    have e1 : G1 = arg1 m c := by
      have := h1; rw [RDat.ArrAt_in _ _ rfl] at this; exact this
    isplitl [H1]
    · rw [← e1]; iexact H1
    isplitl [H2]
    · iexists G2; isplitr; · ipureintro; exact arr_2 m c G2 h2
      iexact H2
    iexists W; isplitr; swap; · iexact HO
    ipureintro
    intro p hp
    rcases hW hp with h | ⟨w, s, h⟩
    · exact h
    · rw [h]; exact Nat.zero_le _

/-! ## The launch element -/

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- The pipeline's ghost state on device `d`. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H' := (own_pair_emb (embR : Emb (UP × Counters) 𝕄) _ _) $$ HR
  icases H' with ⟨HP, -⟩
  imod (Pipeline.fund_ghost (Pipeline.pin (pcfgs (F := F)) adm) (EP (F := F)) phinj) $$ HP with ⟨Hc, Ht⟩
  imodintro
  isplitl [HH]; · iexact HH
  isplitl [Hc Ht]
  · rw [bigSep_sep']
    isplitl [Hc]
    · simp only [Finset.univ_unique, bigSep_singleton]
      iexact Hc
    · simp only [Finset.univ_unique, bigSep_singleton]
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The TensorCore's arrays, all unscoped. -/
abbrev S7 : Finset (DevRef τ sig) := {a0', a1', a2', v0', v1', v2', v3'}

/-- @main's two host operations. -/
abbrev opN : HloOp τ sig (Elt F) := StableHlo.unary main_arg0 main_v0
  (broadcastInDim S16 ![] bcast_S_S16 : (⟨S_, .i32⟩ : BufTy).Contents (Elt F) → (⟨S16, .i32⟩ : BufTy).Contents (Elt F))
abbrev opT : HloOp τ sig (Elt F) := StableHlo.unary main_arg2 main_v1
  ((transpose S100000x128 [1, 0] · transposes_S128x100000_S100000x128_1_0) :
    (⟨S128x100000, .f32⟩ : BufTy).Contents (Elt F) → (⟨S100000x128, .f32⟩ : BufTy).Contents (Elt F))

omit [FloatOps F] in
theorem held_S7 (d : Dev nD) (W : Valuation τ sig (Elt F)) :
    (held (SparseCore.T d) S7 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_v0 ↦{fullShare} W v0')
      ∗ ((SparseCore.T d).loc main_v1 ↦{fullShare} W v1') ∗ ((SparseCore.T d).loc main_v2 ↦{fullShare} W v2')
      ∗ (SparseCore.T d).loc main_v3 ↦{fullShare} W v3') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one after the two operations. -/
def V0 (d : Dev nD) : Valuation τ sig (Elt F) := fun b => m (d, b)
def V2 (d : Dev nD) : Valuation τ sig (Elt F) := (opT (F := F)).result ((opN (F := F)).result (V0 m d))

theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V2_of_ne (d : Dev nD) (b : DevRef τ sig) (h0 : b ≠ v0') (h1 : b ≠ v1') : V2 m d b = m (d, b) := by
  unfold V2
  rw [HloOp.result_of_not_mem _ _ (show b ∉ ({v1'} : Finset (DevRef τ sig)) from fun h => h1 (Finset.mem_singleton.mp h)),
    HloOp.result_of_not_mem _ _ (show b ∉ ({v0'} : Finset (DevRef τ sig)) from fun h => h0 (Finset.mem_singleton.mp h))]
  rfl

theorem V2_v0 (d : Dev nD) : V2 m d v0' = nodes m d := by
  unfold V2
  rw [HloOp.result_of_not_mem _ _ (show v0' ∉ ({v1'} : Finset (DevRef τ sig)) by decide), StableHlo.unary_result]
  rfl

theorem V2_v1 (d : Dev nD) : V2 m d v1' = ctxT m d := by
  unfold V2
  rw [StableHlo.unary_result, HloOp.result_of_not_mem _ _ (show a2' ∉ ({v0'} : Finset (DevRef τ sig)) by decide)]
  rfl

theorem held_V2 (d : Dev nD) :
    (held (SparseCore.T d) S7 (V2 m d) : sProp 𝕄) = iprop(((SparseCore.T d).loc main_arg0 ↦{fullShare} arg0 m d) ∗ ((SparseCore.T d).loc main_arg1 ↦{fullShare} arg1 m d)
      ∗ ((SparseCore.T d).loc main_arg2 ↦{fullShare} arg2 m d) ∗ ((SparseCore.T d).loc main_v0 ↦{fullShare} nodes m d)
      ∗ ((SparseCore.T d).loc main_v1 ↦{fullShare} ctxT m d) ∗ ((SparseCore.T d).loc main_v2 ↦{fullShare} m ((SparseCore.T d).loc main_v2))
      ∗ (SparseCore.T d).loc main_v3 ↦{fullShare} m ((SparseCore.T d).loc main_v3)) := by
  rw [held_S7, V2_v0, V2_v1, V2_of_ne m d a0' (by decide) (by decide), V2_of_ne m d a1' (by decide) (by decide),
    V2_of_ne m d a2' (by decide) (by decide), V2_of_ne m d v2' (by decide) (by decide), V2_of_ne m d v3' (by decide) (by decide)]
  rfl

/-- What the call takes for the two SparseCores, and what it hands back. -/
theorem st0_eq (d : Dev nD) : (bigSep Finset.univ fun c : Fin ((K (F := F)).nCore 0) => (P m).st 0 d c) = iprop((∃ f, operands m d f) ∗ emp) := by
  show (bigSep (Finset.univ : Finset (Fin 2)) fun c => before m d c.val) = _
  rw [show (Finset.univ : Finset (Fin 2)) = {0, 1} by decide, SparseCore.bigSep_insert' (by decide), bigSep_singleton]
  show iprop(before m d 0 ∗ before m d 1) = _
  rw [before_zero, before_one]
theorem dn0_eq (d : Dev nD) : (bigSep Finset.univ fun c : Fin ((K (F := F)).nCore 0) => (P m).dn 0 d c) = iprop(operands m d (z1 m d) ∗ emp) := by
  show (bigSep (Finset.univ : Finset (Fin 2)) fun c => after m d c.val) = _
  rw [show (Finset.univ : Finset (Fin 2)) = {0, 1} by decide, SparseCore.bigSep_insert' (by decide), bigSep_singleton]
  show iprop(after m d 0 ∗ after m d 1) = _
  rw [after_zero, after_one]

/-- What @main leaves the claims: the arguments at their launch contents, the result at what the pipeline leaves. -/
abbrev FIN (d : Dev nD) : sProp 𝕄 :=
  iprop(((SparseCore.T d).loc main_arg0 ↦{fullShare} arg0 m d) ∗ ((SparseCore.T d).loc main_arg1 ↦{fullShare} arg1 m d)
    ∗ ((SparseCore.T d).loc main_arg2 ↦{fullShare} arg2 m d)
    ∗ ∃ o : Vec F S100000 .f32, ⌜Out m d o⌝ ∗ ((SparseCore.T d).loc main_v3 ↦{fullShare} o))

/-- The pipeline's region under the SparseCore launch. -/
theorem region (d : Dev nD) (Q : PUnit.{1} → sProp 𝕄) [∀ e, Nonempty (Elt F e)] :
    iprop((iprop(boundary (SparseCore.T d) ∗ regPost m d) -∗ Q ⟨⟩)
        ∗ boundary (SparseCore.T d) ∗ regPre m d ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Q := by
  have h := (K (F := F)).wp_liftProg (N := 1) (Name := ℕ) (U := UU) (D (F := F)) 𝒱 (SparseCore.T d) Set.univ none
    (Prog.op (.customCall (Pipeline.entry 0) ()) fun _ => .ret PUnit.unit : Prog (TpuEff nD τ sig (Elt F) (ΛP (F := F)) (SparseCore.T d).2) PUnit) Q
  have h2 := RDat.RegionSeg.wp (pcfgs (F := F)) adm (rdats m) none phinj EP defs₀ 𝒱₀ (K (F := F)).L (K (F := F)).lev
    (seg m) d none (fun _ h => nomatch h) (fun _ => .ret PUnit.unit) Q
  refine BI.Entails.trans (show _ ⊢ iprop((iprop(boundary (SparseCore.T d) ∗ regPost m d)
      -∗ wp frame (wpE (D (F := F)) 𝒱 (SparseCore.T d) none) Set.univ (.ret PUnit.unit) Q)
    ∗ boundary (SparseCore.T d) ∗ regPre m d ∗ levAts (K (F := F)).L (K (F := F)).lev ∗ ghost d) from ?_) (BI.Entails.trans h2 h)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hgh⟩
  iapply (wp_hlo_within 𝒱 (SparseCore.T d) none Set.univ (op := opN) (S := S7) (show ({a0', v0'} : Finset (DevRef τ sig)) ⊆ S7 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S7) (show ({a2', v1'} : Finset (DevRef τ sig)) ⊆ S7 by decide) (V := (opN (F := F)).result (V0 m d))) $$ [Hb Hheld]
  · isplitl [Hb]; · iexact Hb
    iexact Hheld
  iintro ⟨Hb, Hheld⟩
  rw [wp_ret]; imodintro
  ihave Hh := (Entails.of_eq (show (held (SparseCore.T d) S7 ((opT (F := F)).result ((opN (F := F)).result (V0 m d))) : sProp 𝕄) = _ from held_V2 m d)) $$ Hheld
  icases Hh with ⟨Ha0, Ha1, Ha2, Hv0, Hv1, Hv2, Hv3⟩
  -- the SparseCore call
  iapply ((K (F := F)).wp_run (D (F := F)) 𝒱 (EH := EH) (P := P m) κ d 0) $$ [Hst Hv0 Hv1 Hv2 Ha0 Ha1 Ha2 Hv3 Hb Hts Hgh]
  isplitr; · iexact Hctx
  isplitl [Hst]; · iexact Hst
  isplitl [Hv0 Hv1 Hv2]
  · rw [st0_eq]
    isplitl [Hv0 Hv1 Hv2]
    · iexists _
      isplitl [Hv0]; · iexact Hv0
      isplitl [Hv1]; · iexact Hv1
      iexact Hv2
    · iempintro
  iintro ⟨Hst, Hdn⟩
  ihave Hdn' := (Entails.of_eq (dn0_eq m d)) $$ Hdn
  icases Hdn' with ⟨⟨-, -, Hv2⟩, -⟩
  -- the pipeline
  unfold SparseCore.Cfg.tcSt
  rw [(K (F := F)).Otc_end d (show 1 ≤ (0 : Fin 1).val + 1 from le_rfl), (K (F := F)).Otc_end d (le_refl 1)]
  icases Hst with ⟨HO, Hst⟩
  iapply (region m d _) $$ [HO Hst Hv2 Ha0 Ha1 Ha2 Hv3 Hb Hts Hgh]
  isplitl [Hst Ha0 Ha2 Hts]
  · iintro ⟨Hb, Ha1, Hv3, HO⟩
    imodintro
    isplitl [Hst HO]
    · isplitl [HO]; · iexact HO
      iexact Hst
    isplitl [Ha0 Ha1 Ha2 Hv3]
    · isplitl [Ha0]; · iexact Ha0
      isplitl [Ha1]; · iexact Ha1
      isplitl [Ha2]; · iexact Ha2
      iexact Hv3
    isplitl [Hb]; · iexact Hb
    iexact Hts
  isplitl [Hb]; · iexact Hb
  isplitl [HO Hv2 Ha1 Hv3]
  · isplitl [Hv2 Ha1 Hv3]
    · isplitl [Hv2]; · iexact Hv2
      isplitl [Ha1]; · iexact Ha1
      iexact Hv3
    iexact HO
  isplitr; · iapply (SparseCore.Cfg.ctx_levAts κ); iexact Hctx
  iexact Hgh

/-- What the run leaves on device `d`: the arguments unchanged, and a result that the pipeline may leave. -/
def fq (d : Dev nD) (s' : Phys nD τ sig (Elt F)) : Prop :=
  s'.mem.mem ((SparseCore.T d).loc main_arg0) = arg0 m d ∧ s'.mem.mem ((SparseCore.T d).loc main_arg1) = arg1 m d
    ∧ s'.mem.mem ((SparseCore.T d).loc main_arg2) = arg2 m d ∧ Out m d (s'.mem.mem ((SparseCore.T d).loc main_v3))

theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ (ℓ ↦{fullShare} f) ∗ SI s') : sProp 𝕄) := by
  iintro ⟨Hx, HSI⟩
  icombine HSI Hx gives %h
  isplitr; · ipureintro; exact funext fun i => h i (Finset.mem_univ i)
  isplitl [Hx]; · iexact Hx
  iexact HSI

theorem hfin (d : Dev nD) (s' : Phys nD τ sig (Elt F)) : iprop(FIN m d ∗ SI s') ⊢ (⌜fq m d s'⌝ : sProp 𝕄) := by
  iintro ⟨⟨H0, H1, H2, %o, %ho, H3⟩, HSI⟩
  ihave H := (read_whole _ _ s') $$ [HSI H0]
  · isplitl [H0] <;> iassumption
  icases H with ⟨%h0, -, HSI⟩
  ihave H := (read_whole _ _ s') $$ [HSI H1]
  · isplitl [H1] <;> iassumption
  icases H with ⟨%h1, -, HSI⟩
  ihave H := (read_whole _ _ s') $$ [HSI H2]
  · isplitl [H2] <;> iassumption
  icases H with ⟨%h2, -, HSI⟩
  ihave H := (read_whole _ _ s') $$ [HSI H3]
  · isplitl [H3] <;> iassumption
  icases H with ⟨%h3, -, HSI⟩
  ipureintro; exact ⟨h0, h1, h2, h3 ▸ ho⟩

/-! ## The program's run -/

def QC : PUnit × MemSt nD τ sig (Elt F) → Prop := fun r =>
  (∀ d : Dev nD, r.2.mem ((SparseCore.T d).loc main_arg0) = arg0 m d ∧ r.2.mem ((SparseCore.T d).loc main_arg1) = arg1 m d
    ∧ r.2.mem ((SparseCore.T d).loc main_arg2) = arg2 m d ∧ Out m d (r.2.mem ((SparseCore.T d).loc main_v3))) ∧ r.2.sem = fun _ => 0

/-- From any memory whose node words lie in range, every fair run ends with the arguments unchanged, every counter at
    zero and the result at what the pipeline may leave. -/
theorem run_main [∀ e, Nonempty (Elt F e)] (hR : ∀ d, InRange m d) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q _ => match q with | 0 => scalarObl m hR)
    (fun q hq => match q with | 0 => nomatch hq)
    (fun q hq => match q with | 0 => nomatch hq)
    m ρ main (fun d => ghost d) (FIN m) (u₀ (F := F)) (sep_elim_left.trans (hu₀ m)) (hmain m ρ) (fq m) (hfin m) (QC m) (fun _ h hz => ⟨h, hz⟩)

end Cert.Proof.Run

end
-- ==== Proof.Reference.lean ====
/-
  The reference's run: its host operations in order, in two stretches (the product with the gathered column, then the
  logarithm of the softmax), and what they leave in the result.
-/
module

public import proofs.«01_k».proof.Proof.Gen.ReferenceIdeal
public import Idealize.ShloMosaic.Lib.StableHlo.Run
public import Idealize.ShloMosaic.Lib.ValueIdxCore

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- A buffer's contents that are one word … -/
abbrev I0 (F : FTy → Type) : Type := (⟨S_, .i32⟩ : BufTy).Contents (Elt F)
/-- … and one bit. -/
abbrev B0 (F : FTy → Type) : Type := (⟨S_, .i1⟩ : BufTy).Contents (Elt F)

/-- The operations that make the column's two start indices. -/
abbrev opsStart : List (HloOp τ sig (Elt F)) :=
  [ nullary main_c (constantI S_ 32 0#32),
    nullary main_c_0 (constantI S_ 32 0#32),
    binary main_c main_c_0 main_v0 (cmpi .slt : I0 F → I0 F → B0 F),
    nullary main_c_1 (constantI S_ 32 0#32),
    nullary main_c_2 (constantI S_ 32 128#32),
    binary main_c_1 main_c_2 main_v1 (addi : I0 F → I0 F → I0 F),
    nullary main_c_3 (constantI S_ 32 0#32),
    ternary main_v0 main_v1 main_c_3 main_v2 (select : B0 F → I0 F → I0 F → I0 F),
    nullary main_c_4 (constantI S_ 32 0#32),
    binary main_arg0 main_c_4 main_v3 (cmpi .slt : I0 F → I0 F → B0 F),
    nullary main_c_5 (constantI S_ 32 100000#32),
    binary main_arg0 main_c_5 main_v4 (addi : I0 F → I0 F → I0 F),
    ternary main_v3 main_v4 main_arg0 main_v5 (select : B0 F → I0 F → I0 F → I0 F) ]

/-- The operations that take the column and multiply the matrix by it. -/
abbrev opsDot : List (HloOp τ sig (Elt F)) :=
  [ unaryIndexed main_arg2 ![main_v2, main_v5] ⟨S_, .i32⟩ main_v6 ((fun x i => Host.dynamicSlice S128x1 x (fun k => (i k (Shape.Idx.first h_S_)).toInt) sliceFits_S128x100000_S128x1) : (⟨S128x100000, .f32⟩ : BufTy).Contents (Elt F) → (Fin 2 → I0 F) → (⟨S128x1, .f32⟩ : BufTy).Contents (Elt F)),
    reshape main_v6 main_v7 (rfl : (.f32 : EltTy) = .f32) shapeCasts_S128x1_S128,
    binary main_arg1 main_v7 main_v8 ((fun l r => Host.dotGeneral dot_S100000x128_S128_S100000_1_0_0_n_n_n none l r) : (⟨S100000x128, .f32⟩ : BufTy).Contents (Elt F) → (⟨S128, .f32⟩ : BufTy).Contents (Elt F) → (⟨S100000, .f32⟩ : BufTy).Contents (Elt F)) ]

/-- The operations of the softmax's logarithm, from the product on. -/
abbrev opsSoftmax : List (HloOp τ sig (Elt F)) :=
  [ TRef.nullary main_call0.cst (constant S_ .f32 0xFF800000#32),
    TRef.binary (TRef.of (T := ⟨S100000, .f32⟩) main_v8) main_call0.cst main_call0.v0 (fun x v => Host.reduce FloatOps.maximumf x v reducesTo_S100000_S_d0 h_S_),
    TRef.nullary main_call0.cst_0 (constant S_ .f32 0xFF800000#32),
    TRef.binary main_call0.cst_0 main_call0.v0 main_call0.v1 maximumf,
    TRef.unary main_call0.v1 main_call0.v2 (broadcastInDim S1 ![] bcast_S_S1),
    TRef.unary main_call0.v2 main_call0.v3 (broadcastInDim S100000 ![0] bcast_S1_S100000_0),
    TRef.binary (TRef.of (T := ⟨S100000, .f32⟩) main_v8) main_call0.v3 main_call0.v4 subf,
    TRef.unary main_call0.v4 main_call0.v5 Host.exp,
    TRef.nullary main_call0.cst_1 (constant S_ .f32 0x00000000#32),
    TRef.binary main_call0.v5 main_call0.cst_1 main_call0.v6 (fun x v => Host.reduceAdd x v reducesTo_S100000_S_d0 h_S_),
    TRef.unary main_call0.v6 main_call0.v7 (broadcastInDim S1 ![] bcast_S_S1),
    TRef.unary main_call0.v7 main_call0.v8 Host.log,
    TRef.unary main_call0.v8 main_call0.v9 (broadcastInDim S100000 ![0] bcast_S1_S100000_0),
    TRef.binary main_call0.v4 main_call0.v9 main_call0.v10 subf ]

/-- The gathered column's starts: row 0, and the node, moved up by the extent where it is negative. -/
def starts (n : I0 F) : Fin 2 → ℤ :=
  ![(select (cmpi .slt (constantI S_ 32 0#32) (constantI S_ 32 0#32)) (addi (constantI S_ 32 0#32) (constantI S_ 32 128#32)) (constantI S_ 32 0#32) (Shape.Idx.first h_S_) : BitVec 32).toInt,
    (select (cmpi .slt n (constantI S_ 32 0#32)) (addi n (constantI S_ 32 100000#32)) n (Shape.Idx.first h_S_) : BitVec 32).toInt]

/-- The product of the matrix and the context's column at the node. -/
def prod (n : I0 F) (z : FVec F S100000x128 .f32) (c : FVec F S128x100000 .f32) : FVec F S100000 .f32 :=
  Host.dotGeneral dot_S100000x128_S128_S100000_1_0_0_n_n_n none z
    (shapeCast S128 (Host.dynamicSlice S128x1 c (starts (F := F) n) sliceFits_S128x100000_S128x1) shapeCasts_S128x1_S128)

/-- The greatest entry. -/
def top (x : FVec F S100000 .f32) : FVec F S_ .f32 :=
  maximumf (constant S_ .f32 0xFF800000#32) (Host.reduce FloatOps.maximumf x (constant S_ .f32 0xFF800000#32) reducesTo_S100000_S_d0 h_S_)

/-- The entries less the greatest. -/
def shifted (x : FVec F S100000 .f32) : FVec F S100000 .f32 :=
  subf x (broadcastInDim S100000 ![0] bcast_S1_S100000_0 (broadcastInDim S1 ![] bcast_S_S1 (top x)))

/-- The softmax's logarithm of a vector. -/
def logSoftmax (x : FVec F S100000 .f32) : FVec F S100000 .f32 :=
  subf (shifted x) (broadcastInDim S100000 ![0] bcast_S1_S100000_0 (Host.log (broadcastInDim S1 ![] bcast_S_S1
    (Host.reduceAdd (Host.exp (shifted x)) (constant S_ .f32 0x00000000#32) reducesTo_S100000_S_d0 h_S_))))

theorem main_eq (c : Dev nD) : main (F := F) c = seq (opsStart ++ opsDot ++ opsSoftmax) := rfl

theorem scopedRefs_eq : (Finset.univ.filter fun b : Ref sig .tc => b.isScoped) = ∅ := by decide
theorem scopedSems_eq : (Finset.univ.filter fun sm : SemLoc sig => sm.isScoped .tc) = ∅ := by decide

/-- Every operation works on the TensorCore's buffers. -/
theorem ops_sub : (opsStart ++ opsDot ++ opsSoftmax : List (HloOp τ sig (Elt F))).Forall fun op => op.bufs ⊆ tcRefs τ sig := by
  exact List.forall_append.2 ⟨List.forall_append.2
    ⟨⟨nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub ..⟩, ⟨unaryIndexed_bufs_sub .., reshape_bufs_sub .., binary_bufs_sub ..⟩⟩,
    ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩⟩

/-- Two stretches run one after the other. -/
theorem after_two (a b : List (HloOp τ sig (Elt F))) (V : Valuation τ sig (Elt F)) : after (a ++ b) V = after b (after a V) := by
  induction a generalizing V with
  | nil => rfl
  | cons op a ih => rw [List.cons_append, after_cons, after_cons, ih]

/-- The second stretch leaves the softmax's logarithm of what the product's buffer held. -/
theorem softmax_result (V : Valuation τ sig (Elt F)) :
    after opsSoftmax V (Proc.devRef .tc main_v9) = logSoftmax (V (Proc.devRef .tc main_v8)) := by
  simp only [opsSoftmax, TRef.binary, TRef.nullary, TRef.unary, TRef.toBuf, TRef.ofBuf, cast_eq]
  after_results
  rfl

/-- The first stretch leaves the column's start row … -/
theorem start_row (V : Valuation τ sig (Elt F)) :
    (after opsStart V (Proc.devRef .tc main_v2) : I0 F)
      = select (cmpi .slt (constantI S_ 32 0#32) (constantI S_ 32 0#32)) (addi (constantI S_ 32 0#32) (constantI S_ 32 128#32)) (constantI S_ 32 0#32) := by
  simp only [opsStart]
  after_results

/-- … and its start column; -/
theorem start_col (V : Valuation τ sig (Elt F)) :
    (after opsStart V (Proc.devRef .tc main_v5) : I0 F)
      = select (cmpi .slt (V (Proc.devRef .tc main_arg0) : I0 F) (constantI S_ 32 0#32)) (addi (V (Proc.devRef .tc main_arg0) : I0 F) (constantI S_ 32 100000#32)) (V (Proc.devRef .tc main_arg0) : I0 F) := by
  simp only [opsStart]
  after_results

/-- it writes no argument. -/
theorem start_args (V : Valuation τ sig (Elt F)) {r : Ref sig .tc} (h : r = main_arg0 ∨ r = main_arg1 ∨ r = main_arg2) :
    after opsStart V (Proc.devRef .tc r) = V (Proc.devRef .tc r) := by
  rcases h with rfl | rfl | rfl <;>
  · simp only [opsStart]
    after_results

/-- The second stretch leaves the product with the column at the starts. -/
theorem dot_result (V : Valuation τ sig (Elt F)) (n : I0 F)
    (h2 : (V (Proc.devRef .tc main_v2) : I0 F) = select (cmpi .slt (constantI S_ 32 0#32) (constantI S_ 32 0#32)) (addi (constantI S_ 32 0#32) (constantI S_ 32 128#32)) (constantI S_ 32 0#32))
    (h5 : (V (Proc.devRef .tc main_v5) : I0 F) = select (cmpi .slt n (constantI S_ 32 0#32)) (addi n (constantI S_ 32 100000#32)) n) :
    after opsDot V (Proc.devRef .tc main_v8) = prod n (V (Proc.devRef .tc main_arg1)) (V (Proc.devRef .tc main_arg2)) := by
  simp only [opsDot]
  after_results
  refine congrArg (Host.dotGeneral _ none _) (congrArg (fun x => shapeCast S128 x shapeCasts_S128x1_S128) ?_)
  refine congrArg (fun s => Host.dynamicSlice S128x1 _ s sliceFits_S128x100000_S128x1) (funext fun k => ?_)
  fin_cases k
  · exact congrArg (fun v : I0 F => (v (Shape.Idx.first h_S_) : BitVec 32).toInt) h2
  · exact congrArg (fun v : I0 F => (v (Shape.Idx.first h_S_) : BitVec 32).toInt) h5

/-- The two together: the product of the matrix with the context's column at the node; -/
theorem prod_result (V : Valuation τ sig (Elt F)) :
    after opsDot (after opsStart V) (Proc.devRef .tc main_v8)
      = prod (V (Proc.devRef .tc main_arg0)) (V (Proc.devRef .tc main_arg1)) (V (Proc.devRef .tc main_arg2)) := by
  rw [dot_result _ _ (start_row V) (start_col V), start_args V (.inr (.inl rfl)), start_args V (.inr (.inr rfl))]

/-- no operation writes an argument. -/
theorem args_kept (V : Valuation τ sig (Elt F)) {r : Ref sig .tc} (h : r = main_arg0 ∨ r = main_arg1 ∨ r = main_arg2) :
    after (opsStart ++ opsDot ++ opsSoftmax) V (Proc.devRef .tc r) = V (Proc.devRef .tc r) := by
  rw [after_two, after_two]
  rcases h with rfl | rfl | rfl <;>
  · simp only [opsStart, opsDot, opsSoftmax, TRef.binary, TRef.nullary, TRef.unary]
    after_results

/-- The reference's run: the result is the softmax's logarithm of the product, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = logSoftmax (prod (m ((c.tc : Thread nD τ).loc main_arg0))
        (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by rw [after_two, after_two, softmax_result, prod_result]),
      (h c main_arg0).trans (args_kept _ (.inl rfl)), (h c main_arg1).trans (args_kept _ (.inr (.inl rfl))),
      (h c main_arg2).trans (args_kept _ (.inr (.inr rfl)))⟩)
    (run_seq scopedRefs_eq scopedSems_eq defs main (fun _ => opsStart ++ opsDot ++ opsSoftmax) main_eq (fun _ => ops_sub) m ρ)

end Cert.Proof.Ref

end
-- ==== Proof.Frames.lean ====
/-
  The frames. The preconditions give the node's range, the run gives the rest; the reference is host operations alone.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_finite
public import proofs.«01_k».proof.Proof.Run
public import proofs.«01_k».proof.Proof.Reference

@[expose] public section

noncomputable section

namespace Cert.Proof

open Idealize.ShloMosaic Idealize.ShloMosaic.TcCoe Idealize.SL.Sem
open Idealize.ShloMosaic.ValueIdx (ix0 ix1 ix2)

/-- Two bits whose conjunction is set are both set. -/
theorem bits_of_and {a b : BitVec 1} (h : IntOp.andi a b = 1#1) : a = 1#1 ∧ b = 1#1 := by
  revert a b; decide

/-- A word that is at least 0 and below 100000, both signed, is a number below 100000. -/
theorem word_in_range {w : BitVec 32} (h0 : IntOp.cmpi .sge w 0#32 = 1#1) (h1 : IntOp.cmpi .slt w 100000#32 = 1#1) :
    w.toNat < 100000 := by
  have e0 : BitVec.sle 0#32 w = true := by
    have : BitVec.ofBool (BitVec.sle 0#32 w) = 1#1 := h0
    cases hb : BitVec.sle 0#32 w
    · rw [hb] at this; exact absurd this (by decide)
    · rfl
  have e1 : BitVec.slt w 100000#32 = true := by
    have : BitVec.ofBool (BitVec.slt w 100000#32) = 1#1 := h1
    cases hb : BitVec.slt w 100000#32
    · rw [hb] at this; exact absurd this (by decide)
    · rfl
  rw [BitVec.sle_iff_toInt_le] at e0
  rw [BitVec.slt_iff_toInt_lt] at e1
  have t0 : (0#32).toInt = 0 := by decide
  have t1 : (100000#32).toInt = 100000 := by decide
  rw [t0] at e0; rw [t1] at e1
  rw [BitVec.toInt_eq_toNat_cond] at e0 e1
  split at e0 <;> omega

/-- The range precondition, read: the node is below 100000. -/
theorem range_of_pre {F : FTy → Type} [FloatOps F] {a0 : IVec ⟨0, ![]⟩ 32} {a1 : FVec F ⟨2, ![100000, 128]⟩ .f32}
    {a2 : FVec F ⟨2, ![128, 100000]⟩ .f32} (h : Cert.Pre_in_range.fn (F := F) a0 a1 a2 = fun _ => 1#1) :
    (a0 ix0).toNat < 100000 := by
  obtain ⟨h0, h1⟩ := bits_of_and (congrFun h ix0)
  exact word_in_range h0 h1

section Finite

open Cert.Pre_in_range_finite

variable {F : FTy → Type} [FloatOps F]

/-- The bit that says of the second argument that every entry is below +∞ in magnitude … -/
def finiteRows (a : FVec F S100000x128 .f32) : IVec S_ 1 :=
  Host.reduce IntOp.andi (cmpf .olt (Host.absf a) (broadcastInDim S100000x128 ![] Facts.bcast_S_S100000x128 (constant S_ .f32 0x7F800000#32)))
    (constantI S_ 1 1#1) Facts.reducesTo_S100000x128_S_d0_1 Facts.h_S_

/-- … and the one that says it of the third. -/
def finiteCols (a : FVec F S128x100000 .f32) : IVec S_ 1 :=
  Host.reduce IntOp.andi (cmpf .olt (Host.absf a) (broadcastInDim S128x100000 ![] Facts.bcast_S_S128x100000 (constant S_ .f32 0x7F800000#32)))
    (constantI S_ 1 1#1) Facts.reducesTo_S128x100000_S_d0_1 Facts.h_S_

/-- The precondition with finiteness is the range's two comparisons and these two bits. -/
theorem pre_finite_eq (a0 : IVec S_ 32) (a1 : FVec F S100000x128 .f32) (a2 : FVec F S128x100000 .f32) :
    fn (F := F) a0 a1 a2 = andi (andi (andi (cmpi .sge a0 (constantI S_ 32 0#32)) (cmpi .slt a0 (constantI S_ 32 100000#32)))
      (finiteRows a1)) (finiteCols a2) := rfl

/-- What it says, bit by bit. -/
theorem pre_finite_bits {a0 : IVec S_ 32} {a1 : FVec F S100000x128 .f32} {a2 : FVec F S128x100000 .f32}
    (h : fn (F := F) a0 a1 a2 = fun _ => 1#1) :
    (a0 ix0).toNat < 100000 ∧ finiteRows a1 ix0 = 1#1 ∧ finiteCols a2 ix0 = 1#1 := by
  rw [pre_finite_eq] at h
  generalize finiteRows a1 = r at h ⊢
  generalize finiteCols a2 = s at h ⊢
  obtain ⟨h', hs⟩ := bits_of_and (a := andi (andi (cmpi .sge a0 (constantI S_ 32 0#32)) (cmpi .slt a0 (constantI S_ 32 100000#32))) r ix0) (b := s ix0) (congrFun h ix0)
  obtain ⟨h'', hr⟩ := bits_of_and (a := andi (cmpi .sge a0 (constantI S_ 32 0#32)) (cmpi .slt a0 (constantI S_ 32 100000#32)) ix0) (b := r ix0) h'
  obtain ⟨h0, h1⟩ := bits_of_and (a := IntOp.cmpi .sge (a0 ix0) 0#32) (b := IntOp.cmpi .slt (a0 ix0) 100000#32) h''
  exact ⟨word_in_range h0 h1, hr, hs⟩

end Finite

section OneText

variable {F : FTy → Type} [FloatOps F]

/-- The kernel as it is and the kernel read over the extended reals have the same bodies … -/
theorem bodies_eq : Cert.Kernel.defs₀ (F := F) = Cert.KernelIdeal.defs₀ := by
  funext p ℓ a
  cases p <;>
  · match ℓ, a with
    | 0, a => rfl
    | 1, a => rfl

/-- … and so the same table of what each label runs. -/
theorem defs_eq : Cert.Kernel.defs (F := F) = Cert.KernelIdeal.defs :=
  congrArg (fun D => Cert.KernelIdeal.sc.defs (Pipeline.defs Cert.KernelIdeal.pcfgs D)) bodies_eq

/-- The run, of the kernel as it is. -/
theorem run_kernel [∀ e, Nonempty (Elt F e)] (m : (ℓ : Loc Cert.KernelIdeal.nD Cert.KernelIdeal.τ Cert.KernelIdeal.sig) → Buf (Elt F) ℓ)
    (ρ : Dev Cert.KernelIdeal.nD → PrngReg) (hR : ∀ d, Run.InRange m d) :
    θ_run (Cert.Kernel.defs (F := F)) (Cert.Kernel.threads (F := F)) ⟨m, fun _ => 0, ρ⟩ (Run.QC m) := by
  have h := Run.run_main m ρ hR
  rw [← defs_eq] at h
  exact h

end OneText

/-- The kernel as it is runs without fault, leaves its arguments unchanged and every counter at zero. -/
theorem frame_kernel : Cert.quiescent_Kernel := fun m ρ hp =>
  (θ_run Cert.Kernel.defs _ _).mono (fun _ h => ⟨fun c => ⟨(h.1 c).1, (h.1 c).2.1, (h.1 c).2.2.1⟩, h.2⟩)
    (run_kernel (F := Bits) m ρ fun d => range_of_pre (hp d))

/-- So does the kernel over the extended reals. -/
theorem frame_ideal : Cert.quiescent_KernelIdeal := fun m ρ hp =>
  (θ_run Cert.KernelIdeal.defs _ _).mono (fun _ h => ⟨fun c => ⟨(h.1 c).1, (h.1 c).2.1, (h.1 c).2.2.1⟩, h.2⟩)
    (Run.run_main (F := Ideal) m ρ fun d => range_of_pre (hp d))

/-- So it does where the floats are finite besides. -/
theorem frame_ideal_finite : Cert.quiescent_KernelIdeal_pre_in_range_finite := fun m ρ hp =>
  (θ_run Cert.KernelIdeal.defs _ _).mono (fun _ h => ⟨fun c => ⟨(h.1 c).1, (h.1 c).2.1, (h.1 c).2.2.1⟩, h.2⟩)
    (Run.run_main (F := Ideal) m ρ fun d => (pre_finite_bits (hp d)).1)

/-- The reference runs without fault and leaves its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Ref.run (F := Ideal) m ρ)

/-- So it does where the floats are finite. -/
theorem frame_reference_finite : Cert.quiescent_ReferenceIdeal_pre_in_range_finite := fun m ρ _ =>
  frame_reference m ρ trivial

end Cert.Proof

end
-- ==== Proof.Online.lean ====
/-
  The running maximum and the running sum of exponentials, over the extended reals: entries past the last are −∞ and
  count for nothing, a step over one more block keeps the two, and what they give at the end is the softmax's logarithm.
-/
module

public import Idealize.ShloMosaic.PureOps.Ideal
public import Idealize.ShloMosaic.PureOps.Ideal.Laws

@[expose] public section

noncomputable section

namespace Cert.Proof.Online

open Idealize.ShloMosaic

variable {N : ℕ} (x : Fin N → ℝ)

/-- The entries, continued by −∞. -/
def entry (i : ℕ) : EReal := if h : i < N then (x ⟨i, h⟩ : EReal) else ⊥

/-- The greatest of the first `n`; -/
def mx (n : ℕ) : EReal := (Finset.range n).sup (entry x)

/-- the sum of their exponentials, each less the greatest. -/
def sm (n : ℕ) : EReal := ∑ i ∈ Finset.range n, Ideal.exp (entry x i - mx x n)

/-- An entry is a real number or −∞. -/
theorem entry_ne_top (i : ℕ) : entry x i ≠ ⊤ := by
  unfold entry
  split
  · exact EReal.coe_ne_top _
  · exact bot_ne_top

/-- Among the first `n ≥ 1` the greatest is a real number. -/
theorem mx_real (hN : 0 < N) {n : ℕ} (hn : 0 < n) : ∃ r : ℝ, mx x n = (r : EReal) := by
  have hb : mx x n ≠ ⊥ := by
    have h0 : entry x 0 ≤ mx x n := Finset.le_sup (f := entry x) (Finset.mem_range.2 hn)
    intro h
    rw [h, le_bot_iff] at h0
    unfold entry at h0
    rw [dif_pos hN] at h0
    exact EReal.coe_ne_bot _ h0
  have ht : mx x n ≠ ⊤ := by
    refine ne_of_lt ((Finset.sup_lt_iff (by exact bot_lt_top)).2 fun i _ => lt_top_iff_ne_top.2 (entry_ne_top x i))
  exact ⟨(mx x n).toReal, (EReal.coe_toReal ht hb).symm⟩

/-- An entry's exponential less a real number, as a real number: 0 past the last entry. -/
def shifted (r : ℝ) (i : ℕ) : ℝ := if h : i < N then Real.exp (x ⟨i, h⟩ - r) else 0

theorem exp_entry (r : ℝ) (i : ℕ) : Ideal.exp (entry x i - (r : EReal)) = (shifted x r i : EReal) := by
  unfold entry shifted
  split
  · rw [← EReal.coe_sub, Ideal.exp_coe]
  · rw [EReal.bot_sub, Ideal.exp_bot]; rfl

/-- Two shifts of one entry's exponential. -/
theorem shifted_mul (r s : ℝ) (i : ℕ) : shifted x r i * Real.exp (r - s) = shifted x s i := by
  unfold shifted
  split
  · rw [← Real.exp_add]; congr 1; ring
  · exact zero_mul _

/-- A sum of reals, read in the extended reals. -/
theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- A fold of the maximum from −∞ is the least upper bound. -/
theorem fold_max {ι : Type} (S : Finset ι) (f : ι → EReal) : S.fold max ⊥ f = S.sup f := rfl

/-- One more block: the greatest so far and the block's greatest. -/
theorem mx_add (a b : ℕ) : max (mx x a) (Finset.univ.sup fun l : Fin b => entry x (a + l.val)) = mx x (a + b) := by
  apply le_antisymm
  · refine max_le (Finset.sup_mono fun i hi => ?_) (Finset.sup_le fun l _ => ?_)
    · rw [Finset.mem_range] at hi ⊢; omega
    · exact Finset.le_sup (f := entry x) (Finset.mem_range.2 (by have := l.isLt; omega))
  · refine Finset.sup_le fun i hi => ?_
    rw [Finset.mem_range] at hi
    by_cases h : i < a
    · exact le_max_of_le_left (Finset.le_sup (f := entry x) (Finset.mem_range.2 h))
    · refine le_max_of_le_right ?_
      have := Finset.le_sup (f := fun l : Fin b => entry x (a + l.val)) (Finset.mem_univ ⟨i - a, by omega⟩)
      simpa only [Nat.add_sub_cancel' (Nat.le_of_not_lt h)] using this

/-- The first block: there is nothing before it. -/
theorem mx_first (b : ℕ) : max ⊥ (Finset.univ.sup fun l : Fin b => entry x l.val) = mx x b := by
  have := mx_add x 0 b
  simpa only [mx, Finset.range_zero, Finset.sup_empty, Nat.zero_add] using this

/-- The sum over the first `n`, less a real number. -/
theorem sum_real (r : ℝ) (n : ℕ) : (∑ i ∈ Finset.range n, Ideal.exp (entry x i - (r : EReal))) = ((∑ i ∈ Finset.range n, shifted x r i : ℝ) : EReal) := by
  rw [← coe_sum]
  exact Finset.sum_congr rfl fun i _ => exp_entry x r i

/-- One more block: the sum so far, moved to the new greatest, and the block's sum. -/
theorem sm_add (hN : 0 < N) {a b : ℕ} (ha : 0 < a) :
    sm x a * Ideal.exp (mx x a - mx x (a + b)) + ∑ l : Fin b, Ideal.exp (entry x (a + l.val) - mx x (a + b)) = sm x (a + b) := by
  obtain ⟨r, hr⟩ := mx_real x hN ha
  obtain ⟨s, hs⟩ := mx_real x hN (n := a + b) (by omega)
  unfold sm
  rw [hr, hs, sum_real, sum_real, ← EReal.coe_sub, Ideal.exp_coe, ← EReal.coe_mul, Finset.sum_mul]
  simp only [exp_entry, shifted_mul]
  rw [coe_sum, ← EReal.coe_add, Finset.sum_range_add, ← Fin.sum_univ_eq_sum_range (fun i => shifted x s (a + i)) b]

/-- The first block's sum. -/
theorem sm_first (b : ℕ) : ∑ l : Fin b, Ideal.exp (entry x l.val - mx x b) = sm x b :=
  Fin.sum_univ_eq_sum_range (fun i => Ideal.exp (entry x i - mx x b)) b

/-- At the end: an entry less the greatest and the sum's logarithm is the softmax's logarithm at it. -/
theorem finish (hN : 0 < N) {n : ℕ} (hn : N ≤ n) (k : Fin N) :
    (x k : EReal) - (mx x n + Ideal.log (sm x n))
      = ((x k : EReal) - Finset.univ.sup fun i => (x i : EReal))
        - Ideal.log (∑ i, Ideal.exp ((x i : EReal) - Finset.univ.sup fun i => (x i : EReal))) := by
  have hm : (Finset.univ.sup fun i => (x i : EReal)) = mx x n := by
    apply le_antisymm
    · refine Finset.sup_le fun i _ => ?_
      have := Finset.le_sup (f := entry x) (Finset.mem_range.2 (lt_of_lt_of_le i.isLt hn))
      rwa [entry, dif_pos i.isLt] at this
    · refine Finset.sup_le fun i _ => ?_
      unfold entry
      split
      · next h => exact Finset.le_sup (f := fun i => (x i : EReal)) (Finset.mem_univ (⟨i, h⟩ : Fin N))
      · exact bot_le
  rw [hm]
  obtain ⟨r, hr⟩ := mx_real x hN (n := n) (by omega)
  have hsum : sm x n = ∑ i, Ideal.exp ((x i : EReal) - mx x n) := by
    obtain ⟨b, rfl⟩ := Nat.exists_eq_add_of_le hn
    unfold sm
    rw [hr, sum_real, Finset.sum_range_add]
    have hz : ∑ i ∈ Finset.range b, shifted x r (N + i) = 0 :=
      Finset.sum_eq_zero fun i _ => dif_neg (by omega)
    rw [hz, add_zero, ← Fin.sum_univ_eq_sum_range (fun i => shifted x r i) N, ← coe_sum]
    refine Finset.sum_congr rfl fun i _ => ?_
    rw [shifted, dif_pos i.isLt, ← EReal.coe_sub, Ideal.exp_coe]
  rw [← hsum]
  have hpos : ∃ t : ℝ, 0 < t ∧ sm x n = (t : EReal) := by
    refine ⟨∑ i ∈ Finset.range n, shifted x r i, ?_, ?_⟩
    · refine Finset.sum_pos' (fun i _ => ?_) ⟨0, Finset.mem_range.2 (by omega), ?_⟩
      · unfold shifted; split
        · exact (Real.exp_pos _).le
        · exact le_rfl
      · unfold shifted; rw [dif_pos hN]; exact Real.exp_pos _
    · unfold sm; rw [hr, sum_real]
  obtain ⟨t, ht, hst⟩ := hpos
  rw [hst, hr, Ideal.log_coe, if_neg (not_le.2 ht), ← EReal.coe_add, ← EReal.coe_sub, ← EReal.coe_sub, ← EReal.coe_sub]
  congr 1
  ring

end Cert.Proof.Online

end
-- ==== Proof.Payload.lean ====
/-
  What the TensorCore's steps compute over the extended reals: a block's scores, the running greatest, the running sum of
  exponentials, and the result's entries.
-/
module

public import proofs.«01_k».proof.Proof.Gen.KernelIdeal
public import proofs.«01_k».proof.Proof.Gen.KernelIdeal.Skeleton
public import proofs.«01_k».proof.Proof.Online
public import Idealize.ShloMosaic.Lib.Pointwise
public import Idealize.ShloMosaic.Lib.StableHlo.Predicate

@[expose] public section

set_option maxRecDepth 16384

noncomputable section

namespace Cert.Proof.Value

open Idealize.ShloMosaic Idealize.SL.Sem
open Cert.KernelIdeal Cert.KernelIdeal.Gen
open Cert.Proof.Online

/-- The word that stands for −∞. -/
theorem neg_inf : Ideal.ofBits .f32 4286578688#32 = (⊥ : EReal) := by
  simp [Ideal.ofBits, Ideal.ieee]

/-- A row's place in the whole, compared with the number of rows. -/
theorem row_below (j : ℕ) (l : Fin 20480) (hj : j < 5) :
    IntOp.cmpi .slt (IntOp.addi (BitVec.ofNat 32 l.val) (Scalar.muli (BitVec.ofNat 32 j) 20480#32)) 100000#32 = 1#1
      ↔ 20480 * j + l.val < 100000 := by
  have hl := l.isLt
  have hw : (IntOp.addi (BitVec.ofNat 32 l.val) (Scalar.muli (BitVec.ofNat 32 j) 20480#32)).toNat = 20480 * j + l.val := by
    show (BitVec.ofNat 32 l.val + BitVec.ofNat 32 j * 20480#32).toNat = _
    simp only [BitVec.toNat_add, BitVec.toNat_mul, BitVec.toNat_ofNat]
    omega
  rw [StableHlo.Predicate.slt_iff_toNat (by omega) (by decide), hw]
  rfl

/-- A block's score at one row: the row's product with the vector inside the array, −∞ past its end. -/
theorem score (j : ℕ) (hj : j < 5) (z : Vec Ideal S1x128 .f32) (b : Vec Ideal S20480x128 .f32) (x : Fin 100000 → ℝ)
    (hx : ∀ (l : Fin 20480) (h : 20480 * j + l.val < 100000), (∑ k : Fin 128, z (ix2 0 k) * b (ix2 l k) : EReal) = (x ⟨20480 * j + l.val, h⟩ : EReal))
    (l : Fin 20480) : k1_pay2 (BitVec.ofNat 32 j) z b (ix2 0 l) = entry x (20480 * j + l.val) := by
  pointwise [k1_pay2]
  unfold Scalar.select entry
  by_cases h : 20480 * j + l.val < 100000
  · rw [dif_pos h]
    exact (if_pos ((row_below j l hj).2 h)).trans (hx l h)
  · rw [dif_neg h]
    exact (if_neg fun e => h ((row_below j l hj).1 e)).trans neg_inf

/-- The scores as the step stores them. -/
theorem stored (w : BitVec 32) (z : Vec Ideal S1x128 .f32) (b : Vec Ideal S20480x128 .f32) (l : Fin 20480) :
    k1_pay3 w z b (ix2 0 l) = k1_pay2 w z b (ix2 0 l) := by
  pointwise [k1_pay3]

/-- A fold over pairs whose first part is one number only. -/
theorem sup_pairs {n : ℕ} (f : Fin n → EReal) : (Finset.univ.fold max ⊥ fun p : Fin 1 × Fin n => f p.2) = Finset.univ.sup f := by
  rw [fold_max]
  apply le_antisymm
  · exact Finset.sup_le fun p _ => Finset.le_sup (f := f) (Finset.mem_univ p.2)
  · exact Finset.sup_le fun l _ => Finset.le_sup (f := fun p : Fin 1 × Fin n => f p.2) (Finset.mem_univ (0, l))

/-- The greatest so far, as a step finds it: −∞ before the first. -/
theorem before (j : ℕ) (hj : j < 5) (v : Elt Ideal .f32) :
    k1_pay4 (BitVec.ofNat 32 j) v = (if j = 0 then (⊥ : EReal) else v) := by
  pointwise [k1_pay4]
  unfold Scalar.select Scalar.cmpi
  by_cases h : j = 0
  · subst h; rw [if_pos rfl, if_pos (by decide)]; exact neg_inf
  · rw [if_neg h, if_neg]
    intro e
    have := congrArg BitVec.toNat (StableHlo.Predicate.cmpi_eq_iff.1 e)
    simp only [BitVec.toNat_ofNat] at this
    omega

/-- A step's new greatest. -/
theorem greatest (w : BitVec 32) (z : Vec Ideal S1x128 .f32) (b : Vec Ideal S20480x128 .f32) (v : Elt Ideal .f32) :
    k1_pay5 w z b v = max (k1_pay4 w v : EReal) (Finset.univ.sup fun l : Fin 20480 => (k1_pay2 w z b (ix2 0 l) : EReal)) := by
  pointwise [k1_pay5]
  rw [neg_inf]
  exact congrArg _ (sup_pairs fun l : Fin 20480 => (k1_pay2 w z b (ix2 0 l) : EReal))

/-- A step's new sum. -/
theorem total (j : ℕ) (hj : j < 5) (z : Vec Ideal S1x128 .f32) (b : Vec Ideal S20480x128 .f32) (v u : Elt Ideal .f32) :
    k1_pay6 (BitVec.ofNat 32 j) z b v u = ((if j = 0 then (0 : EReal)
        else u * Ideal.exp (v - k1_pay5 (BitVec.ofNat 32 j) z b v))
      + ∑ l : Fin 20480, Ideal.exp (k1_pay2 (BitVec.ofNat 32 j) z b (ix2 0 l) - k1_pay5 (BitVec.ofNat 32 j) z b v) : EReal) := by
  pointwise [k1_pay6]
  rw [before j hj]
  simp only [Finset.univ_unique, Finset.sum_singleton]
  congr 1
  unfold Scalar.select Scalar.cmpi
  by_cases h : j = 0
  · subst h; rw [if_pos (by decide), if_pos rfl]
  · rw [if_neg, if_neg h, if_neg h]
    · rfl
    · intro e
      have := congrArg BitVec.toNat (StableHlo.Predicate.cmpi_eq_iff.1 e)
      simp only [BitVec.toNat_ofNat] at this
      omega

/-- The result's entry at `20480 * j + l`: the `j`-th stored row's `l`-th score, less the greatest and the sum's logarithm. -/
theorem result (v u : Elt Ideal .f32) (f : Fin 5 → Vec Ideal S1x20480 .f32) (k : Fin 100000) :
    k1_pay1 v u (f 0) (f 1) (f 2) (f 3) (f 4) (ix1 k)
      = ((f ⟨k.val / 20480, by omega⟩ (ix2 0 ⟨k.val % 20480, by omega⟩) : EReal) - (v + Ideal.log u) : EReal) := by
  pointwise [k1_pay1]
  have at' : ∀ (i : Fin 5) (n : ℕ) (hn : n < 20480), k.val = 20480 * i.val + n →
      (f i (ix2 0 ⟨n, hn⟩) : EReal) = f ⟨k.val / 20480, by omega⟩ (ix2 0 ⟨k.val % 20480, by omega⟩) := by
    intro i n hn e
    have e1 : i = ⟨k.val / 20480, by omega⟩ := Fin.ext (by show i.val = k.val / 20480; omega)
    have e2 : (⟨n, hn⟩ : Fin 20480) = ⟨k.val % 20480, by omega⟩ := Fin.ext (by show n = k.val % 20480; omega)
    rw [e2]
    exact congrArg (fun i => (f i (ix2 0 ⟨k.val % 20480, by omega⟩) : EReal)) e1
  refine congrArg (fun t : EReal => t - (v + Ideal.log u)) ?_
  split
  · exact at' 0 _ _ (by show _ = 20480 * 0 + _; omega)
  split
  · exact at' 1 _ _ (by show _ = 20480 * 1 + _; omega)
  split
  · exact at' 2 _ _ (by show _ = 20480 * 2 + _; omega)
  split
  · exact at' 3 _ _ (by show _ = 20480 * 3 + _; omega)
  · exact at' 4 _ _ (by show _ = 20480 * 4 + _; omega)

end Cert.Proof.Value

end
-- ==== Proof.KernelValue.lean ====
/-
  The kernel's result over the extended reals, when every row's product with the gathered vector is a real number: the
  scalars the steps carry are the greatest and the sum of exponentials so far, and the result's entries follow.
-/
module

public import proofs.«01_k».proof.Proof.Payload
public import proofs.«01_k».proof.Proof.Run

@[expose] public section

set_option maxRecDepth 16384

noncomputable section

namespace Cert.Proof.Value

open Idealize.ShloMosaic Idealize.ShloMosaic.TcCoe Idealize.SL.Sem
open Cert.KernelIdeal Cert.KernelIdeal.Gen
open Cert.Proof.Online Cert.Proof.Run

/-- After `n ≥ 1` steps the two scalars are the greatest of the rows so far and the sum of their exponentials. -/
theorem stat_eq (z : Vec Ideal S1x128 .f32) (B : ℕ → Vec Ideal S20480x128 .f32) (x : Fin 100000 → ℝ) (x0 y0 : Ideal .f32)
    (hs : ∀ (j : ℕ), j < 5 → ∀ l : Fin 20480, k1_pay2 (BitVec.ofNat 32 j) z (B j) (ix2 0 l) = entry x (20480 * j + l.val)) :
    ∀ n : ℕ, n < 5 → stat z B x0 y0 (n + 1) = (mx x (20480 * (n + 1)), sm x (20480 * (n + 1))) := by
  have step : ∀ n : ℕ, n < 5 → (n ≠ 0 → stat z B x0 y0 n = (mx x (20480 * n), sm x (20480 * n))) →
      stat z B x0 y0 (n + 1) = (mx x (20480 * (n + 1)), sm x (20480 * (n + 1))) := by
    intro n hn ih
    have h5 : k1_pay5 (BitVec.ofNat 32 n) z (B n) (stat z B x0 y0 n).1 = mx x (20480 * (n + 1)) := by
      rw [greatest, before n hn]
      simp only [hs n hn]
      by_cases h : n = 0
      · subst h
        simp only [if_true, Nat.mul_zero, Nat.zero_add, Nat.mul_one]
        exact mx_first x 20480
      · rw [if_neg h, ih h]
        exact mx_add x (20480 * n) 20480
    have h6 : k1_pay6 (BitVec.ofNat 32 n) z (B n) (stat z B x0 y0 n).1 (stat z B x0 y0 n).2 = sm x (20480 * (n + 1)) := by
      rw [total n hn, h5]
      simp only [hs n hn]
      by_cases h : n = 0
      · subst h
        simp only [if_true, Nat.mul_zero, Nat.zero_add, Nat.mul_one, zero_add]
        exact sm_first x 20480
      · rw [if_neg h, ih h]
        exact sm_add x (by decide) (by omega)
    rw [stat, h5, h6]
  intro n
  induction n with
  | zero => exact fun h => step 0 h fun e => absurd rfl e
  | succ n ih => exact fun h => step (n + 1) h fun _ => ih (by omega)

variable (m : (ℓ : Loc nD τ sig) → Buf (Elt Ideal) ℓ)

/-- The result's entries. -/
theorem out_eq (d : Dev nD) (x : Fin 100000 → ℝ)
    (hx : ∀ i : Fin 100000, (∑ k : Fin 128, z1 m d (ix2 0 k) * arg1 m d (ix2 i k) : EReal) = (x i : EReal))
    (o : Vec Ideal S100000 .f32) (ho : Out m d o) (k : Fin 100000) :
    o (ix1 k) = ((x k : EReal) - (mx x (20480 * (4 + 1)) + Ideal.log (sm x (20480 * (4 + 1)))) : EReal) := by
  obtain ⟨f, u, v, ⟨B, x0, y0, hB, hf, hu, hv⟩, rfl⟩ := ho
  have hs : ∀ (j : ℕ), j < 5 → ∀ l : Fin 20480,
      k1_pay2 (BitVec.ofNat 32 j) (z1 m d) (B j) (ix2 0 l) = entry x (20480 * j + l.val) := by
    intro j hj l
    refine score j hj _ _ x (fun l h => ?_) l
    rw [← hx]
    exact Finset.sum_congr rfl fun i _ => congrArg _ (hB j hj l i h)
  rw [stat_eq _ _ x _ _ hs 4 (by decide)] at hu hv
  generalize mx x (20480 * (4 + 1)) = M at hu ⊢
  generalize sm x (20480 * (4 + 1)) = S at hv ⊢
  replace hu : u = M := hu
  replace hv : v = S := hv
  subst hu hv
  refine (result _ _ (fun j => fun i => f (ix2 j (i 1))) k).trans ?_
  refine congrArg (fun t : EReal => t - _) ?_
  have hk := k.isLt
  refine (hf ⟨k.val / 20480, by omega⟩ ⟨k.val % 20480, by omega⟩ (by show k.val / 20480 < 5; omega)).trans ?_
  refine (stored _ _ _ _).trans ((hs _ (by show k.val / 20480 < 5; omega) _).trans ?_)
  show entry x (20480 * (k.val / 20480) + k.val % 20480) = _
  rw [Nat.div_add_mod]
  exact dif_pos hk

end Cert.Proof.Value

end
-- ==== Proof.RefValue.lean ====
/-
  The reference's result over the extended reals, when the product's entries are real numbers.
-/
module

public import proofs.«01_k».proof.Proof.Reference
public import proofs.«01_k».proof.Proof.Payload
public import Idealize.ShloMosaic.Lib.DynamicIndex

@[expose] public section

set_option maxRecDepth 16384

noncomputable section

namespace Cert.Proof.Ref

open Idealize.ShloMosaic Idealize.SL.Sem
open Cert.ReferenceIdeal Cert.ReferenceIdeal.Gen
open Cert.Proof.Online (fold_max)

/-- The column at a node in range starts at row 0 and at the node. -/
theorem starts_eq (n : I0 Ideal) (h : (n ix0 : BitVec 32).toNat < 100000) (a : Fin 2) :
    starts (F := Ideal) n a = ((![0, (n ix0 : BitVec 32).toNat] : Fin 2 → ℕ) a : ℤ) := by
  have hfirst : (Shape.Idx.first h_S_ : S_.Idx) = ix0 := by funext i; exact i.elim0
  have hn : (n ix0 : BitVec 32).toInt = (n ix0 : BitVec 32).toNat := StableHlo.Predicate.toInt_eq_toNat_of_lt (by omega)
  fin_cases a
  · rfl
  · show BitVec.toInt (select (cmpi .slt n (constantI S_ 32 0#32)) _ n (Shape.Idx.first h_S_)) = _
    rw [hfirst, select_slt_zero_of_nonneg _ _ _ _ (by rw [hn]; omega), hn]
    rfl

/-- The product's entry at a row: the row times the context's column at the node. -/
theorem prod_eq (n : I0 Ideal) (z : FVec Ideal S100000x128 .f32) (c : FVec Ideal S128x100000 .f32)
    (h : (n ix0 : BitVec 32).toNat < 100000) (k : Fin 100000) :
    prod n z c (ix1 k) = (∑ i : Fin 128, z (ix2 k i) * c (ix2 i ⟨(n ix0 : BitVec 32).toNat, h⟩) : EReal) := by
  have hs : S128x100000.Slices (![0, (n ix0 : BitVec 32).toNat] : Fin 2 → ℕ) S128x1 := by
    refine ⟨rfl, fun a => ?_⟩
    fin_cases a
    · show 0 + 128 ≤ 128; omega
    · show (n ix0 : BitVec 32).toNat + 1 ≤ 100000; omega
  unfold prod
  rw [Host.dynamicSlice_eq_extractStridedSlice S128x1 c _ _ _ hs (starts_eq n h)]
  pointwise []

/-- The softmax's logarithm at an entry. -/
theorem logSoftmax_eq (v : FVec Ideal S100000 .f32) (k : Fin 100000) :
    logSoftmax v (ix1 k) = ((v (ix1 k) : EReal) - (Finset.univ.sup fun i : Fin 100000 => (v (ix1 i) : EReal))
      - Ideal.log (∑ i : Fin 100000, Ideal.exp ((v (ix1 i) : EReal) - Finset.univ.sup fun i : Fin 100000 => (v (ix1 i) : EReal))) : EReal) := by
  pointwise [logSoftmax, shifted, top]
  rw [Cert.Proof.Value.neg_inf, fold_max, max_eq_right bot_le]

end Cert.Proof.Ref

end
-- ==== Proof.Algebraic.lean ====
/-
  The kernel and the reference give one result over the extended reals, where the node is in range and the floats are
  finite: each row's product with the gathered vector is then a real number, the kernel's result is the softmax's
  logarithm of these numbers as the steps accumulate it, and the reference's is the same as one sum.
-/
module

public import proofs.«01_k».proof.Proof.Frames
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem
open Cert.Proof.Online (fold_max entry mx sm finish coe_sum)

/-- A conjunction of bits that is set has every bit set. -/
theorem bits_of_fold {ι : Type} (S : Finset ι) (f : ι → BitVec 1) (h : S.fold IntOp.andi 1#1 f = 1#1) : ∀ i ∈ S, f i = 1#1 := by
  classical
  induction S using Finset.induction_on with
  | empty => intro i hi; exact absurd hi (Finset.notMem_empty i)
  | insert a S ha ih =>
    rw [Finset.fold_insert ha] at h
    obtain ⟨h0, h1⟩ := bits_of_and h
    intro i hi
    rcases Finset.mem_insert.1 hi with rfl | hi
    · exact h0
    · exact ih h1 i hi

/-- The word that stands for +∞. -/
theorem pos_inf : Ideal.ofBits .f32 0x7F800000#32 = (⊤ : EReal) := by
  simp [Ideal.ofBits, Ideal.ieee]

/-- An extended real whose magnitude is below +∞ is a real number. -/
theorem real_of_bit (a : Ideal .f32) (h : FloatOps.cmpf .olt (FloatOps.absf a) (Ideal.ofBits .f32 0x7F800000#32) = 1#1) :
    ∃ r : ℝ, a = ((r : EReal) : Ideal .f32) := by
  rw [Ideal.cmpf_def, Ideal.absf_def, pos_inf] at h
  have hlt : max a (-a) < (⊤ : EReal) := by
    by_contra hc
    simp only [Ideal.cmp, hc] at h
    exact absurd h (by decide)
  have h1 : a ≠ (⊤ : EReal) := ne_of_lt (lt_of_le_of_lt (le_max_left _ _) hlt)
  have h2 : a ≠ (⊥ : EReal) := by
    intro e
    have : -a < (⊤ : EReal) := lt_of_le_of_lt (le_max_right _ _) hlt
    rw [e, EReal.neg_bot] at this
    exact lt_irrefl _ this
  exact ⟨EReal.toReal a, (EReal.coe_toReal h1 h2).symm⟩

/-- The second argument's bit is set: its entries are real numbers; -/
theorem real_rows (a : FVec Ideal Cert.Pre_in_range_finite.S100000x128 .f32) (h : finiteRows (F := Ideal) a ix0 = 1#1)
    (i : Cert.Pre_in_range_finite.S100000x128.Idx) : ∃ r : ℝ, a i = ((r : EReal) : Ideal .f32) := by
  unfold finiteRows at h
  rw [Host.reduce_eq_fold] at h
  exact real_of_bit _ (bits_of_fold _ _ h i (Finset.mem_filter.2 ⟨Finset.mem_univ _, by funext k; exact k.elim0⟩))

/-- the third's: so are its. -/
theorem real_cols (a : FVec Ideal Cert.Pre_in_range_finite.S128x100000 .f32) (h : finiteCols (F := Ideal) a ix0 = 1#1)
    (i : Cert.Pre_in_range_finite.S128x100000.Idx) : ∃ r : ℝ, a i = ((r : EReal) : Ideal .f32) := by
  unfold finiteCols at h
  rw [Host.reduce_eq_fold] at h
  exact real_of_bit _ (bits_of_fold _ _ h i (Finset.mem_filter.2 ⟨Finset.mem_univ _, by funext k; exact k.elim0⟩))

/-- The gathered vector's entry is the third argument's, in the node's column. -/
theorem gathered (m : (ℓ : Loc Cert.KernelIdeal.nD Cert.KernelIdeal.τ Cert.KernelIdeal.sig) → Buf (Elt Ideal) ℓ)
    (d : Dev Cert.KernelIdeal.nD) (h : Run.InRange m d) (k : Fin 128) :
    Run.z1 m d (ix2 0 k) = Run.arg2 m d (ix2 k ⟨(Run.nodeW m d).toNat, h⟩) := by
  have e : (⟨(Run.nodeW m d).toNat % 100000, Nat.mod_lt _ (by decide)⟩ : Fin 100000) = ⟨(Run.nodeW m d).toNat, h⟩ :=
    Fin.ext (Nat.mod_eq_of_lt h)
  have t : ∀ p : Fin 100000, Run.ctxT m d (ix2 p k) = Run.arg2 m d (ix2 k p) := by
    intro p
    pointwise [Run.ctxT]
  exact (t _).trans (congrArg (fun p => Run.arg2 m d (ix2 k p)) e)

/-- One entry of the result: the kernel's is the reference's. -/
theorem values (m : (ℓ : Loc Cert.KernelIdeal.nD Cert.KernelIdeal.τ Cert.KernelIdeal.sig) → Buf (Elt Ideal) ℓ)
    (d : Dev Cert.KernelIdeal.nD) (h : Run.InRange m d)
    (h1 : ∀ i, ∃ r : ℝ, Run.arg1 m d i = ((r : EReal) : Ideal .f32)) (h2 : ∀ i, ∃ r : ℝ, Run.arg2 m d i = ((r : EReal) : Ideal .f32))
    (o : Vec Ideal Cert.KernelIdeal.S100000 .f32) (ho : Run.Out m d o) :
    o = Ref.logSoftmax (Ref.prod (F := Ideal) (Run.arg0 m d) (Run.arg1 m d) (Run.arg2 m d)) := by
  choose a ha using h1
  choose c hc using h2
  let x : Fin 100000 → ℝ := fun i => ∑ k : Fin 128, c (ix2 k ⟨(Run.nodeW m d).toNat, h⟩) * a (ix2 i k)
  have hx : ∀ i : Fin 100000, (∑ k : Fin 128, Run.z1 m d (ix2 0 k) * Run.arg1 m d (ix2 i k) : EReal) = (x i : EReal) := by
    intro i
    rw [← coe_sum]
    refine Finset.sum_congr rfl fun k _ => ?_
    rw [gathered m d h k, hc, ha, EReal.coe_mul]
  have hp : ∀ i : Fin 100000, Ref.prod (F := Ideal) (Run.arg0 m d) (Run.arg1 m d) (Run.arg2 m d) (ix1 i) = ((x i : EReal) : Ideal .f32) := by
    intro i
    rw [Ref.prod_eq _ _ _ h i, ← hx]
    refine Finset.sum_congr rfl fun k _ => ?_
    rw [gathered m d h k]
    exact mul_comm _ _
  have each : ∀ k : Fin 100000, o (ix1 k) = Ref.logSoftmax (Ref.prod (F := Ideal) (Run.arg0 m d) (Run.arg1 m d) (Run.arg2 m d)) (ix1 k) := by
    intro k
    rw [Value.out_eq m d x hx o ho, Ref.logSoftmax_eq]
    simp only [hp]
    exact finish x (by decide) (by decide) k
  funext j
  have hj : j = ix1 (j 0 : Fin 100000) := eq_ix1 j
  exact (congrArg o hj).trans ((each _).trans (congrArg (Ref.logSoftmax (Ref.prod (F := Ideal) (Run.arg0 m d) (Run.arg1 m d) (Run.arg2 m d))) hj.symm))

/-- Where the node is in range and the floats are finite, the kernel over the extended reals and the reference leave one
    result. -/
theorem algebraic : Cert.algebraic_KernelIdeal_ReferenceIdeal_pre_in_range_finite := by
  intro m g m' g' hp hm
  refine ⟨fun d => Ref.logSoftmax (Ref.prod (F := Ideal) (Run.arg0 m d) (Run.arg1 m d) (Run.arg2 m d)), ?_, ?_⟩
  · refine (θ_run Cert.KernelIdeal.defs _ _).mono (fun _ h c => ?_)
      (Run.run_main (F := Ideal) m g fun d => (pre_finite_bits (hp d)).1)
    obtain ⟨h0, h1, h2, ho⟩ := h.1 c
    obtain ⟨hr, hrows, hcols⟩ := pre_finite_bits (hp c)
    exact ⟨values m c hr (real_rows _ hrows) (real_cols _ hcols) _ ho, h0, h1, h2⟩
  · refine (θ_run Cert.ReferenceIdeal.defs _ _).mono (fun _ h c => ?_) (Ref.run (F := Ideal) m' g')
    obtain ⟨ho, h0, h1, h2⟩ := h c
    refine ⟨ho.trans ?_, h0, h1, h2⟩
    obtain ⟨e0, e1, e2⟩ := hm c
    rw [e0, e1, e2]
    rfl

end Cert.Proof

end
-- ==== Proof.lean ====
/-
  The proof of the certificate's claim, put together from the frames and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.Pre_in_range_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim: the frames of the kernel, of its reading over the extended reals and of the reference, that
    this reading is the kernel's own text, and that over the extended reals the kernel's result is the reference's. -/
theorem claim : Cert.Claim := ⟨Cert.Kernel.Gen.facts, Cert.KernelIdeal.Gen.facts, Cert.ReferenceIdeal.Gen.facts, Cert.Pre_in_range.Gen.facts,
  Cert.Pre_in_range_finite.Gen.facts, frame_kernel, frame_ideal, frame_ideal_finite, frame_reference, frame_reference_finite, trivial, algebraic⟩

end Cert.Proof

end
